-- ==== Defs.lean ====
def Pre_Kernel [hPre_in_table : Cert.Pre_in_table.Facts] (m : (ℓ : Loc Cert.Kernel.nD Cert.Kernel.τ Cert.Kernel.sig) → Buf (Elt Bits) ℓ) : Prop :=
  ∀ c : Dev Cert.Kernel.nD,
    (Cert.Pre_in_table.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2))) = (fun _ => 1#1)

def Pre_KernelIdeal [hPre_in_table : Cert.Pre_in_table.Facts] (m : (ℓ : Loc Cert.KernelIdeal.nD Cert.KernelIdeal.τ Cert.KernelIdeal.sig) → Buf (Elt Ideal) ℓ) : Prop :=
  ∀ c : Dev Cert.KernelIdeal.nD,
    (Cert.Pre_in_table.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal [hPre_in_table : Cert.Pre_in_table.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_in_table.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def quiescent_Kernel [hKernel : Cert.Kernel.Facts] [hPre_in_table : Cert.Pre_in_table.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (Cert.Kernel.threads (F := Bits)) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))
      ∧ r.2.sem = fun _ => 0)

def quiescent_KernelIdeal [hKernelIdeal : Cert.KernelIdeal.Facts] [hPre_in_table : Cert.Pre_in_table.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (Cert.KernelIdeal.threads (F := Ideal)) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ r.2.sem = fun _ => 0)

def quiescent_ReferenceIdeal [hReferenceIdeal : Cert.ReferenceIdeal.Facts] [hPre_in_table : Cert.Pre_in_table.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] [hPre_in_table : Cert.Pre_in_table.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v10)),
      θ_run (Cert.KernelIdeal.defs (F := Ideal)) (Cert.KernelIdeal.threads (F := Ideal)) ⟨m, fun _ => 0, g⟩ (fun r => ∀ c : Dev Cert.KernelIdeal.nD,
          r.2.mem ((c.tc : Thread Cert.KernelIdeal.nD Cert.KernelIdeal.τ).loc Cert.KernelIdeal.main_v10) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v9) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_in_table : Cert.Pre_in_table.Facts),
    quiescent_Kernel (hKernel := hKernel) (hPre_in_table := hPre_in_table)
    ∧ quiescent_KernelIdeal (hKernelIdeal := hKernelIdeal) (hPre_in_table := hPre_in_table)
    ∧ quiescent_ReferenceIdeal (hReferenceIdeal := hReferenceIdeal) (hPre_in_table := hPre_in_table)
    ∧ preserves_Kernel_KernelIdeal
    ∧ algebraic_KernelIdeal_ReferenceIdeal (hKernelIdeal := hKernelIdeal) (hReferenceIdeal := hReferenceIdeal) (hPre_in_table := hPre_in_table)
-- ==== Pre_in_table.lean ====
abbrev S1x12x2048x64 : Shape := ⟨4, ![1, 12, 2048, 64]⟩
abbrev S1x2048x2048x1 : Shape := ⟨4, ![1, 2048, 2048, 1]⟩
abbrev S22x768 : Shape := ⟨2, ![22, 768]⟩
abbrev S_ : Shape := ⟨0, ![]⟩

class Facts : Prop where
  bcast_S_S1x2048x2048x1 : S_.BroadcastsInDim S1x2048x2048x1 (![] : Fin 0 → Fin S1x2048x2048x1.rank)
  reducesTo_S1x2048x2048x1_S_d0_1_2_3 : S1x2048x2048x1.ReducesTo [0, 1, 2, 3] S_
  h_S_ : 0 < S_.numel

variable [Facts]

def fn {F : FTy → Type} [FloatOps F] (main_arg0 : FVec F S1x12x2048x64 .f32) (main_arg1 : IVec S1x2048x2048x1 32) (main_arg2 : FVec F S22x768 .f32) : IVec S_ 1 :=
  let main_c : IVec S_ 32 := constantI S_ 32 0#32
  let main_v0 : IVec S1x2048x2048x1 32 := broadcastInDim S1x2048x2048x1 ![] bcast_S_S1x2048x2048x1 main_c
  let main_v1 : IVec S1x2048x2048x1 1 := cmpi .sge main_arg1 main_v0
  let main_c_0 : IVec S_ 32 := constantI S_ 32 22#32
  let main_v2 : IVec S1x2048x2048x1 32 := broadcastInDim S1x2048x2048x1 ![] bcast_S_S1x2048x2048x1 main_c_0
  let main_v3 : IVec S1x2048x2048x1 1 := cmpi .slt main_arg1 main_v2
  let main_v4 : IVec S1x2048x2048x1 1 := andi main_v1 main_v3
  let main_c_1 : IVec S_ 1 := constantI S_ 1 1#1
  let main_v5 : IVec S_ 1 := (fun x v => Host.reduce IntOp.andi x v reducesTo_S1x2048x2048x1_S_d0_1_2_3 h_S_) main_v4 main_c_1
  main_v5
-- ==== Kernel.lean ====
abbrev S1x12x2048x64 : Shape := ⟨4, ![1, 12, 2048, 64]⟩
abbrev S1x2048x2048x1 : Shape := ⟨4, ![1, 2048, 2048, 1]⟩
abbrev S22x768 : Shape := ⟨2, ![22, 768]⟩
abbrev S_ : Shape := ⟨0, ![]⟩
abbrev S1 : Shape := ⟨1, ![1]⟩
abbrev S768 : Shape := ⟨1, ![768]⟩
abbrev S22x12x64 : Shape := ⟨3, ![22, 12, 64]⟩
abbrev S12x64x22 : Shape := ⟨3, ![12, 64, 22]⟩
abbrev S12x64x32 : Shape := ⟨3, ![12, 64, 32]⟩
abbrev S12x2048x64 : Shape := ⟨3, ![12, 2048, 64]⟩
abbrev S2048x384 : Shape := ⟨2, ![2048, 384]⟩
abbrev S1x2048x64 : Shape := ⟨3, ![1, 2048, 64]⟩
abbrev S2048x64 : Shape := ⟨2, ![2048, 64]⟩
abbrev S1x64x32 : Shape := ⟨3, ![1, 64, 32]⟩
abbrev S64x32 : Shape := ⟨2, ![64, 32]⟩
abbrev S2048x32 : Shape := ⟨2, ![2048, 32]⟩
abbrev S2048x2048 : Shape := ⟨2, ![2048, 2048]⟩
abbrev S12x2048x2048 : Shape := ⟨3, ![12, 2048, 2048]⟩
abbrev S64x384 : Shape := ⟨2, ![64, 384]⟩
abbrev S2x2048 : Shape := ⟨2, ![2, 2048]⟩
abbrev S2x12x2048 : Shape := ⟨3, ![2, 12, 2048]⟩
abbrev S1x2048 : Shape := ⟨2, ![1, 2048]⟩
abbrev S2048 : Shape := ⟨1, ![2048]⟩
abbrev S1x12x2048 : Shape := ⟨3, ![1, 12, 2048]⟩
abbrev S12x2048 : Shape := ⟨2, ![12, 2048]⟩
abbrev S12x1x2048 : Shape := ⟨3, ![12, 1, 2048]⟩
abbrev S16 : Shape := ⟨1, ![16]⟩
abbrev S1x16 : Shape := ⟨2, ![1, 16]⟩
abbrev S1x32 : Shape := ⟨2, ![1, 32]⟩
abbrev S32 : Shape := ⟨1, ![32]⟩
abbrev S1x1x16 : Shape := ⟨3, ![1, 1, 16]⟩
abbrev S1x12x2048x2048 : Shape := ⟨4, ![1, 12, 2048, 2048]⟩

abbrev nBuf : Table → Nat
  | .hbm => 18
  | .local .tc .vmem => 3
  | .local .scVector .vmem => 3
  | _ => 0

abbrev bufTy : (tb : Table) → Fin (nBuf tb) → BufTy
  | .hbm, ⟨0, _⟩ => ⟨S1x12x2048x64, .f32⟩
  | .hbm, ⟨1, _⟩ => ⟨S1x2048x2048x1, .i32⟩
  | .hbm, ⟨2, _⟩ => ⟨S22x768, .f32⟩
  | .hbm, ⟨3, _⟩ => ⟨S_, .i32⟩
  | .hbm, ⟨4, _⟩ => ⟨S1, .i32⟩
  | .hbm, ⟨5, _⟩ => ⟨S_, .f32⟩
  | .hbm, ⟨6, _⟩ => ⟨S768, .f32⟩
  | .hbm, ⟨7, _⟩ => ⟨S22x768, .f32⟩
  | .hbm, ⟨8, _⟩ => ⟨S22x12x64, .f32⟩
  | .hbm, ⟨9, _⟩ => ⟨S12x64x22, .f32⟩
  | .hbm, ⟨10, _⟩ => ⟨S_, .i32⟩
  | .hbm, ⟨11, _⟩ => ⟨S_, .f32⟩
  | .hbm, ⟨12, _⟩ => ⟨S12x64x32, .f32⟩
  | .hbm, ⟨13, _⟩ => ⟨S12x2048x64, .f32⟩
  | .hbm, ⟨14, _⟩ => ⟨S2048x384, .f32⟩
  | .hbm, ⟨15, _⟩ => ⟨S2048x2048, .i32⟩
  | .hbm, ⟨16, _⟩ => ⟨S12x2048x2048, .f32⟩
  | .hbm, ⟨17, _⟩ => ⟨S1x12x2048x2048, .f32⟩
  | .local .tc .vmem, ⟨0, _⟩ => ⟨S12x2048x64, .f32⟩
  | .local .tc .vmem, ⟨1, _⟩ => ⟨S12x64x32, .f32⟩
  | .local .tc .vmem, ⟨2, _⟩ => ⟨S2048x384, .f32⟩
  | .local .scVector .vmem, ⟨0, _⟩ => ⟨S64x384, .f32⟩
  | .local .scVector .vmem, ⟨1, _⟩ => ⟨S2x2048, .i32⟩
  | .local .scVector .vmem, ⟨2, _⟩ => ⟨S2x12x2048, .f32⟩
  | _, _ => ⟨S1x12x2048x64, .f32⟩

abbrev bufScoped : (cs : CoreSpace) → Fin (nBuf (.local .tc cs)) → Bool
  | .vmem, ⟨0, _⟩ => true
  | .vmem, ⟨1, _⟩ => true
  | .vmem, ⟨2, _⟩ => true
  | _, _ => false

abbrev semScoped : Fin 4 → Bool
  | ⟨0, _⟩ => false
  | ⟨1, _⟩ => false
  | ⟨2, _⟩ => false
  | ⟨3, _⟩ => false
  | _ => false

abbrev dmaSemScoped : Fin 8 → Bool
  | ⟨0, _⟩ => true
  | ⟨1, _⟩ => true
  | ⟨2, _⟩ => true
  | ⟨3, _⟩ => false
  | ⟨4, _⟩ => false
  | ⟨5, _⟩ => false
  | ⟨6, _⟩ => false
  | ⟨7, _⟩ => false
  | _ => false

abbrev sig : RefSig :=
  ofTables nBuf rfl bufTy 4 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_c : Ref sig .tc := ⟨.hbm, 3, rfl⟩
abbrev main_v0 : Ref sig .tc := ⟨.hbm, 4, rfl⟩
abbrev main_cst : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_c_0 : Ref sig .tc := ⟨.hbm, 10, rfl⟩
abbrev main_call0_v0 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v7_scv : Ref sig .scVector := ⟨.hbm, 14, rfl⟩
abbrev main_v8_scv : Ref sig .scVector := ⟨.hbm, 15, rfl⟩
abbrev main_v9_scv : Ref sig .scVector := ⟨.hbm, 16, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc1_scratch0 : Ref sig .scVector := ⟨.vmem, 0, rfl⟩
abbrev cc1_scratch1 : Ref sig .scVector := ⟨.vmem, 1, rfl⟩
abbrev cc1_scratch2 : Ref sig .scVector := ⟨.vmem, 2, rfl⟩
abbrev cc0_sem0_0 : DmaSem sig := 0
abbrev cc0_sem1_0 : DmaSem sig := 1
abbrev cc0_sem2_0 : DmaSem sig := 2
abbrev sc_start : Sem sig := 0
abbrev sc_done : Sem sig := 1
abbrev sc_go : Sem sig := 2
abbrev sc_taskDone : Sem sig := 3

abbrev nD : Nat := 1
abbrev τ : Topo := Topo.v7x

variable {F : FTy → Type} [FloatOps F]

abbrev grid0 : Pipeline.Grid := .none

abbrev stage0_0 : Fin 1 → Memref sig .tc .vmem S12x2048x64 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S12x64x32 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S2048x384 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev grid1 : Pipeline.Grid := ⟨2, ![2, 16], ![false, false]⟩

def k1_off1 (i : grid1.Coords) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c64_i32 : BitVec 32 := 64#32
  let v2 : BitVec 32 := Scalar.muli v1 c64_i32
  let c0_i32_32_r0 : BitVec 32 := 0#32
  ![v2.toNat, 0]
def k1_off2 (i : grid1.Coords) (c0_i32 : BitVec 32) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c64_i32 : BitVec 32 := 64#32
  let v2 : BitVec 32 := Scalar.muli v1 c64_i32
  let v3 : BitVec 32 := Scalar.addi v2 c0_i32
  let c0_i32_2 : BitVec 32 := 0#32
  ![v3.toNat, 0]
@[reducible] def k1_t1_loop : Scf.Loop 32 :=
  let c0_i32_11 : BitVec 32 := 0#32
  let c32_i32 : BitVec 32 := 32#32
  let v21 : BitVec 32 := Scalar.addi c0_i32_11 c32_i32
  let c1_i32_12 : BitVec 32 := 1#32
  ⟨c0_i32_11, v21, c1_i32_12⟩
def k1_off3 (i : grid1.Coords) (k1_t1 : Fin k1_t1_loop.trips) (c0_i32_33 : BitVec 32) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c64_i32 : BitVec 32 := 64#32
  let v2 : BitVec 32 := Scalar.muli v1 c64_i32
  let c0_i32_11 : BitVec 32 := 0#32
  let c1_i32_12 : BitVec 32 := 1#32
  let arg12 : BitVec 32 := Scf.iv c0_i32_11 c1_i32_12 k1_t1
  let c2_i32_32 : BitVec 32 := 2#32
  let v40 : BitVec 32 := Scalar.muli arg12 c2_i32_32
  let v41 : BitVec 32 := Scalar.addi v40 c0_i32_33
  let v42 : BitVec 32 := Scalar.addi v2 v41
  let c0_i32_36 : BitVec 32 := 0#32
  ![v42.toNat, 0]
def k1_cond1 (k1_t1 : Fin k1_t1_loop.trips) : BitVec 1 :=
  let c0_i32_11 : BitVec 32 := 0#32
  let c1_i32_12 : BitVec 32 := 1#32
  let arg12 : BitVec 32 := Scf.iv c0_i32_11 c1_i32_12 k1_t1
  let c2_i32_32 : BitVec 32 := 2#32
  let v40 : BitVec 32 := Scalar.muli arg12 c2_i32_32
  let c0_i32_33 : BitVec 32 := 0#32
  let v41 : BitVec 32 := Scalar.addi v40 c0_i32_33
  let c2_i32_39 : BitVec 32 := 2#32
  let v51 : BitVec 1 := Scalar.cmpi .sge v41 c2_i32_39
  let v52 : BitVec 32 := Scalar.extui v51
  let c0_i32_40 : BitVec 32 := 0#32
  let v53 : BitVec 1 := Scalar.cmpi .ne v52 c0_i32_40
  v53

def k1_off4 (i : grid1.Coords) (k1_t1 : Fin k1_t1_loop.trips) : Fin 3 → Nat :=
  let c0_i32_85 : BitVec 32 := 0#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c64_i32 : BitVec 32 := 64#32
  let v2 : BitVec 32 := Scalar.muli v1 c64_i32
  let c0_i32_11 : BitVec 32 := 0#32
  let c1_i32_12 : BitVec 32 := 1#32
  let arg12 : BitVec 32 := Scf.iv c0_i32_11 c1_i32_12 k1_t1
  let c2_i32_32 : BitVec 32 := 2#32
  let v40 : BitVec 32 := Scalar.muli arg12 c2_i32_32
  let c0_i32_33 : BitVec 32 := 0#32
  let v41 : BitVec 32 := Scalar.addi v40 c0_i32_33
  let c2_i32_81 : BitVec 32 := 2#32
  let v96 : BitVec 32 := Scalar.subi v41 c2_i32_81
  let v97 : BitVec 32 := Scalar.addi v2 v96
  let c0_i32_86 : BitVec 32 := 0#32
  ![0, v97.toNat, 0]
@[reducible] def k1_t2_loop : Scf.Loop 32 :=
  let c0_i32_41 : BitVec 32 := 0#32
  let c128_i32 : BitVec 32 := 128#32
  let v54 : BitVec 32 := Scalar.addi c0_i32_41 c128_i32
  let c1_i32_42 : BitVec 32 := 1#32
  ⟨c0_i32_41, v54, c1_i32_42⟩
def k1_off5 (k1_t2 : Fin k1_t2_loop.trips) : Fin 2 → Nat :=
  let c0_i32_83 : BitVec 32 := 0#32
  let v99 : Index := Scalar.indexCast c0_i32_83
  let c0_i32_82 : BitVec 32 := 0#32
  let c0_i32_41 : BitVec 32 := 0#32
  let c1_i32_42 : BitVec 32 := 1#32
  let arg13 : BitVec 32 := Scf.iv c0_i32_41 c1_i32_42 k1_t2
  let c1_i32_81 : BitVec 32 := 1#32
  let v96 : BitVec 32 := Scalar.muli arg13 c1_i32_81
  let v97 : BitVec 32 := Scalar.addi c0_i32_82 v96
  let c16_i32 : BitVec 32 := 16#32
  let v98 : BitVec 32 := Scalar.muli v97 c16_i32
  let v100 : Index := Scalar.indexCast v98
  ![0, v100.toNat]
def k1_off6 (k1_t1 : Fin k1_t1_loop.trips) : Fin 2 → Nat :=
  let c0_i32_11 : BitVec 32 := 0#32
  let c1_i32_12 : BitVec 32 := 1#32
  let arg12 : BitVec 32 := Scf.iv c0_i32_11 c1_i32_12 k1_t1
  let c2_i32_32 : BitVec 32 := 2#32
  let v40 : BitVec 32 := Scalar.muli arg12 c2_i32_32
  let c0_i32_33 : BitVec 32 := 0#32
  let v41 : BitVec 32 := Scalar.addi v40 c0_i32_33
  let c0_i32_84 : BitVec 32 := 0#32
  ![v41.toNat, 0]
def k1_off7 (k1_t2 : Fin k1_t2_loop.trips) : Fin 3 → Nat :=
  let c0_i32_86 : BitVec 32 := 0#32
  let v106 : Index := Scalar.indexCast c0_i32_86
  let c0_i32_87 : BitVec 32 := 0#32
  let v107 : Index := Scalar.indexCast c0_i32_87
  let c0_i32_82 : BitVec 32 := 0#32
  let c0_i32_41 : BitVec 32 := 0#32
  let c1_i32_42 : BitVec 32 := 1#32
  let arg13 : BitVec 32 := Scf.iv c0_i32_41 c1_i32_42 k1_t2
  let c1_i32_81 : BitVec 32 := 1#32
  let v96 : BitVec 32 := Scalar.muli arg13 c1_i32_81
  let v97 : BitVec 32 := Scalar.addi c0_i32_82 v96
  let c16_i32_85 : BitVec 32 := 16#32
  let v105 : BitVec 32 := Scalar.muli v97 c16_i32_85
  let v108 : Index := Scalar.indexCast v105
  ![0, 0, v108.toNat]
def k1_off8 (k1_t1 : Fin k1_t1_loop.trips) : Fin 2 → Nat :=
  let c0_i32_11 : BitVec 32 := 0#32
  let c1_i32_12 : BitVec 32 := 1#32
  let arg12 : BitVec 32 := Scf.iv c0_i32_11 c1_i32_12 k1_t1
  let c2_i32_32 : BitVec 32 := 2#32
  let v40 : BitVec 32 := Scalar.muli arg12 c2_i32_32
  let c0_i32_33 : BitVec 32 := 0#32
  let v41 : BitVec 32 := Scalar.addi v40 c0_i32_33
  let c32_i32_88 : BitVec 32 := 32#32
  ![v41.toNat, 32]
def k1_off9 (k1_t2 : Fin k1_t2_loop.trips) : Fin 3 → Nat :=
  let c0_i32_90 : BitVec 32 := 0#32
  let v114 : Index := Scalar.indexCast c0_i32_90
  let c1_i32_91 : BitVec 32 := 1#32
  let v115 : Index := Scalar.indexCast c1_i32_91
  let c0_i32_82 : BitVec 32 := 0#32
  let c0_i32_41 : BitVec 32 := 0#32
  let c1_i32_42 : BitVec 32 := 1#32
  let arg13 : BitVec 32 := Scf.iv c0_i32_41 c1_i32_42 k1_t2
  let c1_i32_81 : BitVec 32 := 1#32
  let v96 : BitVec 32 := Scalar.muli arg13 c1_i32_81
  let v97 : BitVec 32 := Scalar.addi c0_i32_82 v96
  let c16_i32_89 : BitVec 32 := 16#32
  let v113 : BitVec 32 := Scalar.muli v97 c16_i32_89
  let v116 : Index := Scalar.indexCast v113
  ![0, 1, v116.toNat]
def k1_off10 (k1_t1 : Fin k1_t1_loop.trips) : Fin 2 → Nat :=
  let c0_i32_11 : BitVec 32 := 0#32
  let c1_i32_12 : BitVec 32 := 1#32
  let arg12 : BitVec 32 := Scf.iv c0_i32_11 c1_i32_12 k1_t1
  let c2_i32_32 : BitVec 32 := 2#32
  let v40 : BitVec 32 := Scalar.muli arg12 c2_i32_32
  let c0_i32_33 : BitVec 32 := 0#32
  let v41 : BitVec 32 := Scalar.addi v40 c0_i32_33
  let c64_i32_92 : BitVec 32 := 64#32
  ![v41.toNat, 64]
def k1_off11 (k1_t2 : Fin k1_t2_loop.trips) : Fin 3 → Nat :=
  let c0_i32_94 : BitVec 32 := 0#32
  let v122 : Index := Scalar.indexCast c0_i32_94
  let c2_i32_95 : BitVec 32 := 2#32
  let v123 : Index := Scalar.indexCast c2_i32_95
  let c0_i32_82 : BitVec 32 := 0#32
  let c0_i32_41 : BitVec 32 := 0#32
  let c1_i32_42 : BitVec 32 := 1#32
  let arg13 : BitVec 32 := Scf.iv c0_i32_41 c1_i32_42 k1_t2
  let c1_i32_81 : BitVec 32 := 1#32
  let v96 : BitVec 32 := Scalar.muli arg13 c1_i32_81
  let v97 : BitVec 32 := Scalar.addi c0_i32_82 v96
  let c16_i32_93 : BitVec 32 := 16#32
  let v121 : BitVec 32 := Scalar.muli v97 c16_i32_93
  let v124 : Index := Scalar.indexCast v121
  ![0, 2, v124.toNat]
def k1_off12 (k1_t1 : Fin k1_t1_loop.trips) : Fin 2 → Nat :=
  let c0_i32_11 : BitVec 32 := 0#32
  let c1_i32_12 : BitVec 32 := 1#32
  let arg12 : BitVec 32 := Scf.iv c0_i32_11 c1_i32_12 k1_t1
  let c2_i32_32 : BitVec 32 := 2#32
  let v40 : BitVec 32 := Scalar.muli arg12 c2_i32_32
  let c0_i32_33 : BitVec 32 := 0#32
  let v41 : BitVec 32 := Scalar.addi v40 c0_i32_33
  let c96_i32 : BitVec 32 := 96#32
  ![v41.toNat, 96]
def k1_off13 (k1_t2 : Fin k1_t2_loop.trips) : Fin 3 → Nat :=
  let c0_i32_97 : BitVec 32 := 0#32
  let v130 : Index := Scalar.indexCast c0_i32_97
  let c3_i32 : BitVec 32 := 3#32
  let v131 : Index := Scalar.indexCast c3_i32
  let c0_i32_82 : BitVec 32 := 0#32
  let c0_i32_41 : BitVec 32 := 0#32
  let c1_i32_42 : BitVec 32 := 1#32
  let arg13 : BitVec 32 := Scf.iv c0_i32_41 c1_i32_42 k1_t2
  let c1_i32_81 : BitVec 32 := 1#32
  let v96 : BitVec 32 := Scalar.muli arg13 c1_i32_81
  let v97 : BitVec 32 := Scalar.addi c0_i32_82 v96
  let c16_i32_96 : BitVec 32 := 16#32
  let v129 : BitVec 32 := Scalar.muli v97 c16_i32_96
  let v132 : Index := Scalar.indexCast v129
  ![0, 3, v132.toNat]
def k1_off14 (k1_t1 : Fin k1_t1_loop.trips) : Fin 2 → Nat :=
  let c0_i32_11 : BitVec 32 := 0#32
  let c1_i32_12 : BitVec 32 := 1#32
  let arg12 : BitVec 32 := Scf.iv c0_i32_11 c1_i32_12 k1_t1
  let c2_i32_32 : BitVec 32 := 2#32
  let v40 : BitVec 32 := Scalar.muli arg12 c2_i32_32
  let c0_i32_33 : BitVec 32 := 0#32
  let v41 : BitVec 32 := Scalar.addi v40 c0_i32_33
  let c128_i32_98 : BitVec 32 := 128#32
  ![v41.toNat, 128]
def k1_off15 (k1_t2 : Fin k1_t2_loop.trips) : Fin 3 → Nat :=
  let c0_i32_100 : BitVec 32 := 0#32
  let v138 : Index := Scalar.indexCast c0_i32_100
  let c4_i32 : BitVec 32 := 4#32
  let v139 : Index := Scalar.indexCast c4_i32
  let c0_i32_82 : BitVec 32 := 0#32
  let c0_i32_41 : BitVec 32 := 0#32
  let c1_i32_42 : BitVec 32 := 1#32
  let arg13 : BitVec 32 := Scf.iv c0_i32_41 c1_i32_42 k1_t2
  let c1_i32_81 : BitVec 32 := 1#32
  let v96 : BitVec 32 := Scalar.muli arg13 c1_i32_81
  let v97 : BitVec 32 := Scalar.addi c0_i32_82 v96
  let c16_i32_99 : BitVec 32 := 16#32
  let v137 : BitVec 32 := Scalar.muli v97 c16_i32_99
  let v140 : Index := Scalar.indexCast v137
  ![0, 4, v140.toNat]
def k1_off16 (k1_t1 : Fin k1_t1_loop.trips) : Fin 2 → Nat :=
  let c0_i32_11 : BitVec 32 := 0#32
  let c1_i32_12 : BitVec 32 := 1#32
  let arg12 : BitVec 32 := Scf.iv c0_i32_11 c1_i32_12 k1_t1
  let c2_i32_32 : BitVec 32 := 2#32
  let v40 : BitVec 32 := Scalar.muli arg12 c2_i32_32
  let c0_i32_33 : BitVec 32 := 0#32
  let v41 : BitVec 32 := Scalar.addi v40 c0_i32_33
  let c160_i32 : BitVec 32 := 160#32
  ![v41.toNat, 160]
def k1_off17 (k1_t2 : Fin k1_t2_loop.trips) : Fin 3 → Nat :=
  let c0_i32_102 : BitVec 32 := 0#32
  let v146 : Index := Scalar.indexCast c0_i32_102
  let c5_i32 : BitVec 32 := 5#32
  let v147 : Index := Scalar.indexCast c5_i32
  let c0_i32_82 : BitVec 32 := 0#32
  let c0_i32_41 : BitVec 32 := 0#32
  let c1_i32_42 : BitVec 32 := 1#32
  let arg13 : BitVec 32 := Scf.iv c0_i32_41 c1_i32_42 k1_t2
  let c1_i32_81 : BitVec 32 := 1#32
  let v96 : BitVec 32 := Scalar.muli arg13 c1_i32_81
  let v97 : BitVec 32 := Scalar.addi c0_i32_82 v96
  let c16_i32_101 : BitVec 32 := 16#32
  let v145 : BitVec 32 := Scalar.muli v97 c16_i32_101
  let v148 : Index := Scalar.indexCast v145
  ![0, 5, v148.toNat]
def k1_off18 (k1_t1 : Fin k1_t1_loop.trips) : Fin 2 → Nat :=
  let c0_i32_11 : BitVec 32 := 0#32
  let c1_i32_12 : BitVec 32 := 1#32
  let arg12 : BitVec 32 := Scf.iv c0_i32_11 c1_i32_12 k1_t1
  let c2_i32_32 : BitVec 32 := 2#32
  let v40 : BitVec 32 := Scalar.muli arg12 c2_i32_32
  let c0_i32_33 : BitVec 32 := 0#32
  let v41 : BitVec 32 := Scalar.addi v40 c0_i32_33
  let c192_i32 : BitVec 32 := 192#32
  ![v41.toNat, 192]
def k1_off19 (k1_t2 : Fin k1_t2_loop.trips) : Fin 3 → Nat :=
  let c0_i32_104 : BitVec 32 := 0#32
  let v154 : Index := Scalar.indexCast c0_i32_104
  let c6_i32 : BitVec 32 := 6#32
  let v155 : Index := Scalar.indexCast c6_i32
  let c0_i32_82 : BitVec 32 := 0#32
  let c0_i32_41 : BitVec 32 := 0#32
  let c1_i32_42 : BitVec 32 := 1#32
  let arg13 : BitVec 32 := Scf.iv c0_i32_41 c1_i32_42 k1_t2
  let c1_i32_81 : BitVec 32 := 1#32
  let v96 : BitVec 32 := Scalar.muli arg13 c1_i32_81
  let v97 : BitVec 32 := Scalar.addi c0_i32_82 v96
  let c16_i32_103 : BitVec 32 := 16#32
  let v153 : BitVec 32 := Scalar.muli v97 c16_i32_103
  let v156 : Index := Scalar.indexCast v153
  ![0, 6, v156.toNat]
def k1_off20 (k1_t1 : Fin k1_t1_loop.trips) : Fin 2 → Nat :=
  let c0_i32_11 : BitVec 32 := 0#32
  let c1_i32_12 : BitVec 32 := 1#32
  let arg12 : BitVec 32 := Scf.iv c0_i32_11 c1_i32_12 k1_t1
  let c2_i32_32 : BitVec 32 := 2#32
  let v40 : BitVec 32 := Scalar.muli arg12 c2_i32_32
  let c0_i32_33 : BitVec 32 := 0#32
  let v41 : BitVec 32 := Scalar.addi v40 c0_i32_33
  let c224_i32 : BitVec 32 := 224#32
  ![v41.toNat, 224]
def k1_off21 (k1_t2 : Fin k1_t2_loop.trips) : Fin 3 → Nat :=
  let c0_i32_106 : BitVec 32 := 0#32
  let v162 : Index := Scalar.indexCast c0_i32_106
  let c7_i32 : BitVec 32 := 7#32
  let v163 : Index := Scalar.indexCast c7_i32
  let c0_i32_82 : BitVec 32 := 0#32
  let c0_i32_41 : BitVec 32 := 0#32
  let c1_i32_42 : BitVec 32 := 1#32
  let arg13 : BitVec 32 := Scf.iv c0_i32_41 c1_i32_42 k1_t2
  let c1_i32_81 : BitVec 32 := 1#32
  let v96 : BitVec 32 := Scalar.muli arg13 c1_i32_81
  let v97 : BitVec 32 := Scalar.addi c0_i32_82 v96
  let c16_i32_105 : BitVec 32 := 16#32
  let v161 : BitVec 32 := Scalar.muli v97 c16_i32_105
  let v164 : Index := Scalar.indexCast v161
  ![0, 7, v164.toNat]
def k1_off22 (k1_t1 : Fin k1_t1_loop.trips) : Fin 2 → Nat :=
  let c0_i32_11 : BitVec 32 := 0#32
  let c1_i32_12 : BitVec 32 := 1#32
  let arg12 : BitVec 32 := Scf.iv c0_i32_11 c1_i32_12 k1_t1
  let c2_i32_32 : BitVec 32 := 2#32
  let v40 : BitVec 32 := Scalar.muli arg12 c2_i32_32
  let c0_i32_33 : BitVec 32 := 0#32
  let v41 : BitVec 32 := Scalar.addi v40 c0_i32_33
  let c256_i32 : BitVec 32 := 256#32
  ![v41.toNat, 256]
def k1_off23 (k1_t2 : Fin k1_t2_loop.trips) : Fin 3 → Nat :=
  let c0_i32_108 : BitVec 32 := 0#32
  let v170 : Index := Scalar.indexCast c0_i32_108
  let c8_i32 : BitVec 32 := 8#32
  let v171 : Index := Scalar.indexCast c8_i32
  let c0_i32_82 : BitVec 32 := 0#32
  let c0_i32_41 : BitVec 32 := 0#32
  let c1_i32_42 : BitVec 32 := 1#32
  let arg13 : BitVec 32 := Scf.iv c0_i32_41 c1_i32_42 k1_t2
  let c1_i32_81 : BitVec 32 := 1#32
  let v96 : BitVec 32 := Scalar.muli arg13 c1_i32_81
  let v97 : BitVec 32 := Scalar.addi c0_i32_82 v96
  let c16_i32_107 : BitVec 32 := 16#32
  let v169 : BitVec 32 := Scalar.muli v97 c16_i32_107
  let v172 : Index := Scalar.indexCast v169
  ![0, 8, v172.toNat]
def k1_off24 (k1_t1 : Fin k1_t1_loop.trips) : Fin 2 → Nat :=
  let c0_i32_11 : BitVec 32 := 0#32
  let c1_i32_12 : BitVec 32 := 1#32
  let arg12 : BitVec 32 := Scf.iv c0_i32_11 c1_i32_12 k1_t1
  let c2_i32_32 : BitVec 32 := 2#32
  let v40 : BitVec 32 := Scalar.muli arg12 c2_i32_32
  let c0_i32_33 : BitVec 32 := 0#32
  let v41 : BitVec 32 := Scalar.addi v40 c0_i32_33
  let c288_i32 : BitVec 32 := 288#32
  ![v41.toNat, 288]
def k1_off25 (k1_t2 : Fin k1_t2_loop.trips) : Fin 3 → Nat :=
  let c0_i32_110 : BitVec 32 := 0#32
  let v178 : Index := Scalar.indexCast c0_i32_110
  let c9_i32 : BitVec 32 := 9#32
  let v179 : Index := Scalar.indexCast c9_i32
  let c0_i32_82 : BitVec 32 := 0#32
  let c0_i32_41 : BitVec 32 := 0#32
  let c1_i32_42 : BitVec 32 := 1#32
  let arg13 : BitVec 32 := Scf.iv c0_i32_41 c1_i32_42 k1_t2
  let c1_i32_81 : BitVec 32 := 1#32
  let v96 : BitVec 32 := Scalar.muli arg13 c1_i32_81
  let v97 : BitVec 32 := Scalar.addi c0_i32_82 v96
  let c16_i32_109 : BitVec 32 := 16#32
  let v177 : BitVec 32 := Scalar.muli v97 c16_i32_109
  let v180 : Index := Scalar.indexCast v177
  ![0, 9, v180.toNat]
def k1_off26 (k1_t1 : Fin k1_t1_loop.trips) : Fin 2 → Nat :=
  let c0_i32_11 : BitVec 32 := 0#32
  let c1_i32_12 : BitVec 32 := 1#32
  let arg12 : BitVec 32 := Scf.iv c0_i32_11 c1_i32_12 k1_t1
  let c2_i32_32 : BitVec 32 := 2#32
  let v40 : BitVec 32 := Scalar.muli arg12 c2_i32_32
  let c0_i32_33 : BitVec 32 := 0#32
  let v41 : BitVec 32 := Scalar.addi v40 c0_i32_33
  let c320_i32 : BitVec 32 := 320#32
  ![v41.toNat, 320]
def k1_off27 (k1_t2 : Fin k1_t2_loop.trips) : Fin 3 → Nat :=
  let c0_i32_112 : BitVec 32 := 0#32
  let v186 : Index := Scalar.indexCast c0_i32_112
  let c10_i32 : BitVec 32 := 10#32
  let v187 : Index := Scalar.indexCast c10_i32
  let c0_i32_82 : BitVec 32 := 0#32
  let c0_i32_41 : BitVec 32 := 0#32
  let c1_i32_42 : BitVec 32 := 1#32
  let arg13 : BitVec 32 := Scf.iv c0_i32_41 c1_i32_42 k1_t2
  let c1_i32_81 : BitVec 32 := 1#32
  let v96 : BitVec 32 := Scalar.muli arg13 c1_i32_81
  let v97 : BitVec 32 := Scalar.addi c0_i32_82 v96
  let c16_i32_111 : BitVec 32 := 16#32
  let v185 : BitVec 32 := Scalar.muli v97 c16_i32_111
  let v188 : Index := Scalar.indexCast v185
  ![0, 10, v188.toNat]
def k1_off28 (k1_t1 : Fin k1_t1_loop.trips) : Fin 2 → Nat :=
  let c0_i32_11 : BitVec 32 := 0#32
  let c1_i32_12 : BitVec 32 := 1#32
  let arg12 : BitVec 32 := Scf.iv c0_i32_11 c1_i32_12 k1_t1
  let c2_i32_32 : BitVec 32 := 2#32
  let v40 : BitVec 32 := Scalar.muli arg12 c2_i32_32
  let c0_i32_33 : BitVec 32 := 0#32
  let v41 : BitVec 32 := Scalar.addi v40 c0_i32_33
  let c352_i32 : BitVec 32 := 352#32
  ![v41.toNat, 352]

def k1_chk1 (v101 : IVec S16 32) : Prop :=
  (∀ a x, ((![v101] : Fin 1 → IVec S16 32) a x).toNat < S32.size a) ∧
  (∀ a x, ((![v101] : Fin 1 → IVec S16 32) a x).toNat < S32.size a) ∧
  (∀ a x, ((![v101] : Fin 1 → IVec S16 32) a x).toNat < S32.size a) ∧
  (∀ a x, ((![v101] : Fin 1 → IVec S16 32) a x).toNat < S32.size a) ∧
  (∀ a x, ((![v101] : Fin 1 → IVec S16 32) a x).toNat < S32.size a) ∧
  (∀ a x, ((![v101] : Fin 1 → IVec S16 32) a x).toNat < S32.size a) ∧
  (∀ a x, ((![v101] : Fin 1 → IVec S16 32) a x).toNat < S32.size a) ∧
  (∀ a x, ((![v101] : Fin 1 → IVec S16 32) a x).toNat < S32.size a) ∧
  (∀ a x, ((![v101] : Fin 1 → IVec S16 32) a x).toNat < S32.size a) ∧
  (∀ a x, ((![v101] : Fin 1 → IVec S16 32) a x).toNat < S32.size a) ∧
  (∀ a x, ((![v101] : Fin 1 → IVec S16 32) a x).toNat < S32.size a) ∧
  (∀ a x, ((![v101] : Fin 1 → IVec S16 32) a x).toNat < S32.size a)
theorem k1_idx1_inb : ∀ (v101 : IVec S16 32) (k1_hw1 : k1_chk1 v101), ∀ a x, ((![v101] : Fin 1 → IVec S16 32) a x).toNat < S32.size a := fun v101 k1_hw1 => k1_hw1.1
theorem k1_idx2_inb : ∀ (v101 : IVec S16 32) (k1_hw1 : k1_chk1 v101), ∀ a x, ((![v101] : Fin 1 → IVec S16 32) a x).toNat < S32.size a := fun v101 k1_hw1 => k1_hw1.2.1
theorem k1_idx3_inb : ∀ (v101 : IVec S16 32) (k1_hw1 : k1_chk1 v101), ∀ a x, ((![v101] : Fin 1 → IVec S16 32) a x).toNat < S32.size a := fun v101 k1_hw1 => k1_hw1.2.2.1
theorem k1_idx4_inb : ∀ (v101 : IVec S16 32) (k1_hw1 : k1_chk1 v101), ∀ a x, ((![v101] : Fin 1 → IVec S16 32) a x).toNat < S32.size a := fun v101 k1_hw1 => k1_hw1.2.2.2.1
theorem k1_idx5_inb : ∀ (v101 : IVec S16 32) (k1_hw1 : k1_chk1 v101), ∀ a x, ((![v101] : Fin 1 → IVec S16 32) a x).toNat < S32.size a := fun v101 k1_hw1 => k1_hw1.2.2.2.2.1
theorem k1_idx6_inb : ∀ (v101 : IVec S16 32) (k1_hw1 : k1_chk1 v101), ∀ a x, ((![v101] : Fin 1 → IVec S16 32) a x).toNat < S32.size a := fun v101 k1_hw1 => k1_hw1.2.2.2.2.2.1
theorem k1_idx7_inb : ∀ (v101 : IVec S16 32) (k1_hw1 : k1_chk1 v101), ∀ a x, ((![v101] : Fin 1 → IVec S16 32) a x).toNat < S32.size a := fun v101 k1_hw1 => k1_hw1.2.2.2.2.2.2.1
theorem k1_idx8_inb : ∀ (v101 : IVec S16 32) (k1_hw1 : k1_chk1 v101), ∀ a x, ((![v101] : Fin 1 → IVec S16 32) a x).toNat < S32.size a := fun v101 k1_hw1 => k1_hw1.2.2.2.2.2.2.2.1
theorem k1_idx9_inb : ∀ (v101 : IVec S16 32) (k1_hw1 : k1_chk1 v101), ∀ a x, ((![v101] : Fin 1 → IVec S16 32) a x).toNat < S32.size a := fun v101 k1_hw1 => k1_hw1.2.2.2.2.2.2.2.2.1
theorem k1_idx10_inb : ∀ (v101 : IVec S16 32) (k1_hw1 : k1_chk1 v101), ∀ a x, ((![v101] : Fin 1 → IVec S16 32) a x).toNat < S32.size a := fun v101 k1_hw1 => k1_hw1.2.2.2.2.2.2.2.2.2.1
theorem k1_idx11_inb : ∀ (v101 : IVec S16 32) (k1_hw1 : k1_chk1 v101), ∀ a x, ((![v101] : Fin 1 → IVec S16 32) a x).toNat < S32.size a := fun v101 k1_hw1 => k1_hw1.2.2.2.2.2.2.2.2.2.2.1
theorem k1_idx12_inb : ∀ (v101 : IVec S16 32) (k1_hw1 : k1_chk1 v101), ∀ a x, ((![v101] : Fin 1 → IVec S16 32) a x).toNat < S32.size a := fun v101 k1_hw1 => k1_hw1.2.2.2.2.2.2.2.2.2.2.2
def k1_off29 (k1_t2 : Fin k1_t2_loop.trips) : Fin 3 → Nat :=
  let c0_i32_114 : BitVec 32 := 0#32
  let v194 : Index := Scalar.indexCast c0_i32_114
  let c11_i32 : BitVec 32 := 11#32
  let v195 : Index := Scalar.indexCast c11_i32
  let c0_i32_82 : BitVec 32 := 0#32
  let c0_i32_41 : BitVec 32 := 0#32
  let c1_i32_42 : BitVec 32 := 1#32
  let arg13 : BitVec 32 := Scf.iv c0_i32_41 c1_i32_42 k1_t2
  let c1_i32_81 : BitVec 32 := 1#32
  let v96 : BitVec 32 := Scalar.muli arg13 c1_i32_81
  let v97 : BitVec 32 := Scalar.addi c0_i32_82 v96
  let c16_i32_113 : BitVec 32 := 16#32
  let v193 : BitVec 32 := Scalar.muli v97 c16_i32_113
  let v196 : Index := Scalar.indexCast v193
  ![0, 11, v196.toNat]
def k1_off30 (i : grid1.Coords) (k1_t1 : Fin k1_t1_loop.trips) (c0_i32_33 : BitVec 32) : Fin 3 → Nat :=
  let c0_i32_47 : BitVec 32 := 0#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c64_i32 : BitVec 32 := 64#32
  let v2 : BitVec 32 := Scalar.muli v1 c64_i32
  let c0_i32_11 : BitVec 32 := 0#32
  let c1_i32_12 : BitVec 32 := 1#32
  let arg12 : BitVec 32 := Scf.iv c0_i32_11 c1_i32_12 k1_t1
  let c2_i32_32 : BitVec 32 := 2#32
  let v40 : BitVec 32 := Scalar.muli arg12 c2_i32_32
  let v41 : BitVec 32 := Scalar.addi v40 c0_i32_33
  let v55 : BitVec 32 := Scalar.addi v2 v41
  let c0_i32_48 : BitVec 32 := 0#32
  ![0, v55.toNat, 0]
def k1_cond2 (k1_t1 : Fin k1_t1_loop.trips) : BitVec 1 :=
  let c0_i32_11 : BitVec 32 := 0#32
  let c1_i32_12 : BitVec 32 := 1#32
  let arg12 : BitVec 32 := Scf.iv c0_i32_11 c1_i32_12 k1_t1
  let c2_i32_32 : BitVec 32 := 2#32
  let v40 : BitVec 32 := Scalar.muli arg12 c2_i32_32
  let c0_i32_33 : BitVec 32 := 0#32
  let v41 : BitVec 32 := Scalar.addi v40 c0_i32_33
  let c2_i32_53 : BitVec 32 := 2#32
  let v64 : BitVec 32 := Scalar.addi v41 c2_i32_53
  let c64_i32_54 : BitVec 32 := 64#32
  let v65 : BitVec 1 := Scalar.cmpi .slt v64 c64_i32_54
  let v66 : BitVec 32 := Scalar.extui v65
  let c0_i32_55 : BitVec 32 := 0#32
  let v67 : BitVec 1 := Scalar.cmpi .ne v66 c0_i32_55
  v67

def k1_off31 (i : grid1.Coords) (k1_t1 : Fin k1_t1_loop.trips) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c64_i32 : BitVec 32 := 64#32
  let v2 : BitVec 32 := Scalar.muli v1 c64_i32
  let c0_i32_11 : BitVec 32 := 0#32
  let c1_i32_12 : BitVec 32 := 1#32
  let arg12 : BitVec 32 := Scf.iv c0_i32_11 c1_i32_12 k1_t1
  let c2_i32_32 : BitVec 32 := 2#32
  let v40 : BitVec 32 := Scalar.muli arg12 c2_i32_32
  let c0_i32_33 : BitVec 32 := 0#32
  let v41 : BitVec 32 := Scalar.addi v40 c0_i32_33
  let c2_i32_81 : BitVec 32 := 2#32
  let v96 : BitVec 32 := Scalar.addi v41 c2_i32_81
  let v97 : BitVec 32 := Scalar.addi v2 v96
  let c0_i32_84 : BitVec 32 := 0#32
  ![v97.toNat, 0]
def k1_cond3 (k1_t1 : Fin k1_t1_loop.trips) : BitVec 1 :=
  let c0_i32_11 : BitVec 32 := 0#32
  let c1_i32_12 : BitVec 32 := 1#32
  let arg12 : BitVec 32 := Scf.iv c0_i32_11 c1_i32_12 k1_t1
  let c2_i32_56 : BitVec 32 := 2#32
  let v68 : BitVec 32 := Scalar.muli arg12 c2_i32_56
  let c1_i32_57 : BitVec 32 := 1#32
  let v69 : BitVec 32 := Scalar.addi v68 c1_i32_57
  let c2_i32_63 : BitVec 32 := 2#32
  let v79 : BitVec 1 := Scalar.cmpi .sge v69 c2_i32_63
  let v80 : BitVec 32 := Scalar.extui v79
  let c0_i32_64 : BitVec 32 := 0#32
  let v81 : BitVec 1 := Scalar.cmpi .ne v80 c0_i32_64
  v81

def k1_off32 (i : grid1.Coords) (k1_t1 : Fin k1_t1_loop.trips) : Fin 3 → Nat :=
  let c0_i32_85 : BitVec 32 := 0#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c64_i32 : BitVec 32 := 64#32
  let v2 : BitVec 32 := Scalar.muli v1 c64_i32
  let c0_i32_11 : BitVec 32 := 0#32
  let c1_i32_12 : BitVec 32 := 1#32
  let arg12 : BitVec 32 := Scf.iv c0_i32_11 c1_i32_12 k1_t1
  let c2_i32_56 : BitVec 32 := 2#32
  let v68 : BitVec 32 := Scalar.muli arg12 c2_i32_56
  let c1_i32_57 : BitVec 32 := 1#32
  let v69 : BitVec 32 := Scalar.addi v68 c1_i32_57
  let c2_i32_81 : BitVec 32 := 2#32
  let v96 : BitVec 32 := Scalar.subi v69 c2_i32_81
  let v97 : BitVec 32 := Scalar.addi v2 v96
  let c0_i32_86 : BitVec 32 := 0#32
  ![0, v97.toNat, 0]
@[reducible] def k1_t3_loop : Scf.Loop 32 :=
  let c0_i32_65 : BitVec 32 := 0#32
  let c128_i32_66 : BitVec 32 := 128#32
  let v82 : BitVec 32 := Scalar.addi c0_i32_65 c128_i32_66
  let c1_i32_67 : BitVec 32 := 1#32
  ⟨c0_i32_65, v82, c1_i32_67⟩
def k1_off33 (k1_t3 : Fin k1_t3_loop.trips) : Fin 2 → Nat :=
  let c1_i32_83 : BitVec 32 := 1#32
  let v99 : Index := Scalar.indexCast c1_i32_83
  let c0_i32_82 : BitVec 32 := 0#32
  let c0_i32_65 : BitVec 32 := 0#32
  let c1_i32_67 : BitVec 32 := 1#32
  let arg13 : BitVec 32 := Scf.iv c0_i32_65 c1_i32_67 k1_t3
  let c1_i32_81 : BitVec 32 := 1#32
  let v96 : BitVec 32 := Scalar.muli arg13 c1_i32_81
  let v97 : BitVec 32 := Scalar.addi c0_i32_82 v96
  let c16_i32 : BitVec 32 := 16#32
  let v98 : BitVec 32 := Scalar.muli v97 c16_i32
  let v100 : Index := Scalar.indexCast v98
  ![1, v100.toNat]
def k1_off34 (k1_t1 : Fin k1_t1_loop.trips) : Fin 2 → Nat :=
  let c0_i32_11 : BitVec 32 := 0#32
  let c1_i32_12 : BitVec 32 := 1#32
  let arg12 : BitVec 32 := Scf.iv c0_i32_11 c1_i32_12 k1_t1
  let c2_i32_56 : BitVec 32 := 2#32
  let v68 : BitVec 32 := Scalar.muli arg12 c2_i32_56
  let c1_i32_57 : BitVec 32 := 1#32
  let v69 : BitVec 32 := Scalar.addi v68 c1_i32_57
  let c0_i32_84 : BitVec 32 := 0#32
  ![v69.toNat, 0]
def k1_off35 (k1_t3 : Fin k1_t3_loop.trips) : Fin 3 → Nat :=
  let c1_i32_86 : BitVec 32 := 1#32
  let v106 : Index := Scalar.indexCast c1_i32_86
  let c0_i32_87 : BitVec 32 := 0#32
  let v107 : Index := Scalar.indexCast c0_i32_87
  let c0_i32_82 : BitVec 32 := 0#32
  let c0_i32_65 : BitVec 32 := 0#32
  let c1_i32_67 : BitVec 32 := 1#32
  let arg13 : BitVec 32 := Scf.iv c0_i32_65 c1_i32_67 k1_t3
  let c1_i32_81 : BitVec 32 := 1#32
  let v96 : BitVec 32 := Scalar.muli arg13 c1_i32_81
  let v97 : BitVec 32 := Scalar.addi c0_i32_82 v96
  let c16_i32_85 : BitVec 32 := 16#32
  let v105 : BitVec 32 := Scalar.muli v97 c16_i32_85
  let v108 : Index := Scalar.indexCast v105
  ![1, 0, v108.toNat]
def k1_off36 (k1_t1 : Fin k1_t1_loop.trips) : Fin 2 → Nat :=
  let c0_i32_11 : BitVec 32 := 0#32
  let c1_i32_12 : BitVec 32 := 1#32
  let arg12 : BitVec 32 := Scf.iv c0_i32_11 c1_i32_12 k1_t1
  let c2_i32_56 : BitVec 32 := 2#32
  let v68 : BitVec 32 := Scalar.muli arg12 c2_i32_56
  let c1_i32_57 : BitVec 32 := 1#32
  let v69 : BitVec 32 := Scalar.addi v68 c1_i32_57
  let c32_i32_88 : BitVec 32 := 32#32
  ![v69.toNat, 32]
def k1_off37 (k1_t3 : Fin k1_t3_loop.trips) : Fin 3 → Nat :=
  let c1_i32_90 : BitVec 32 := 1#32
  let v114 : Index := Scalar.indexCast c1_i32_90
  let c1_i32_91 : BitVec 32 := 1#32
  let v115 : Index := Scalar.indexCast c1_i32_91
  let c0_i32_82 : BitVec 32 := 0#32
  let c0_i32_65 : BitVec 32 := 0#32
  let c1_i32_67 : BitVec 32 := 1#32
  let arg13 : BitVec 32 := Scf.iv c0_i32_65 c1_i32_67 k1_t3
  let c1_i32_81 : BitVec 32 := 1#32
  let v96 : BitVec 32 := Scalar.muli arg13 c1_i32_81
  let v97 : BitVec 32 := Scalar.addi c0_i32_82 v96
  let c16_i32_89 : BitVec 32 := 16#32
  let v113 : BitVec 32 := Scalar.muli v97 c16_i32_89
  let v116 : Index := Scalar.indexCast v113
  ![1, 1, v116.toNat]
def k1_off38 (k1_t1 : Fin k1_t1_loop.trips) : Fin 2 → Nat :=
  let c0_i32_11 : BitVec 32 := 0#32
  let c1_i32_12 : BitVec 32 := 1#32
  let arg12 : BitVec 32 := Scf.iv c0_i32_11 c1_i32_12 k1_t1
  let c2_i32_56 : BitVec 32 := 2#32
  let v68 : BitVec 32 := Scalar.muli arg12 c2_i32_56
  let c1_i32_57 : BitVec 32 := 1#32
  let v69 : BitVec 32 := Scalar.addi v68 c1_i32_57
  let c64_i32_92 : BitVec 32 := 64#32
  ![v69.toNat, 64]
def k1_off39 (k1_t3 : Fin k1_t3_loop.trips) : Fin 3 → Nat :=
  let c1_i32_94 : BitVec 32 := 1#32
  let v122 : Index := Scalar.indexCast c1_i32_94
  let c2_i32_95 : BitVec 32 := 2#32
  let v123 : Index := Scalar.indexCast c2_i32_95
  let c0_i32_82 : BitVec 32 := 0#32
  let c0_i32_65 : BitVec 32 := 0#32
  let c1_i32_67 : BitVec 32 := 1#32
  let arg13 : BitVec 32 := Scf.iv c0_i32_65 c1_i32_67 k1_t3
  let c1_i32_81 : BitVec 32 := 1#32
  let v96 : BitVec 32 := Scalar.muli arg13 c1_i32_81
  let v97 : BitVec 32 := Scalar.addi c0_i32_82 v96
  let c16_i32_93 : BitVec 32 := 16#32
  let v121 : BitVec 32 := Scalar.muli v97 c16_i32_93
  let v124 : Index := Scalar.indexCast v121
  ![1, 2, v124.toNat]
def k1_off40 (k1_t1 : Fin k1_t1_loop.trips) : Fin 2 → Nat :=
  let c0_i32_11 : BitVec 32 := 0#32
  let c1_i32_12 : BitVec 32 := 1#32
  let arg12 : BitVec 32 := Scf.iv c0_i32_11 c1_i32_12 k1_t1
  let c2_i32_56 : BitVec 32 := 2#32
  let v68 : BitVec 32 := Scalar.muli arg12 c2_i32_56
  let c1_i32_57 : BitVec 32 := 1#32
  let v69 : BitVec 32 := Scalar.addi v68 c1_i32_57
  let c96_i32 : BitVec 32 := 96#32
  ![v69.toNat, 96]
def k1_off41 (k1_t3 : Fin k1_t3_loop.trips) : Fin 3 → Nat :=
  let c1_i32_97 : BitVec 32 := 1#32
  let v130 : Index := Scalar.indexCast c1_i32_97
  let c3_i32 : BitVec 32 := 3#32
  let v131 : Index := Scalar.indexCast c3_i32
  let c0_i32_82 : BitVec 32 := 0#32
  let c0_i32_65 : BitVec 32 := 0#32
  let c1_i32_67 : BitVec 32 := 1#32
  let arg13 : BitVec 32 := Scf.iv c0_i32_65 c1_i32_67 k1_t3
  let c1_i32_81 : BitVec 32 := 1#32
  let v96 : BitVec 32 := Scalar.muli arg13 c1_i32_81
  let v97 : BitVec 32 := Scalar.addi c0_i32_82 v96
  let c16_i32_96 : BitVec 32 := 16#32
  let v129 : BitVec 32 := Scalar.muli v97 c16_i32_96
  let v132 : Index := Scalar.indexCast v129
  ![1, 3, v132.toNat]
def k1_off42 (k1_t1 : Fin k1_t1_loop.trips) : Fin 2 → Nat :=
  let c0_i32_11 : BitVec 32 := 0#32
  let c1_i32_12 : BitVec 32 := 1#32
  let arg12 : BitVec 32 := Scf.iv c0_i32_11 c1_i32_12 k1_t1
  let c2_i32_56 : BitVec 32 := 2#32
  let v68 : BitVec 32 := Scalar.muli arg12 c2_i32_56
  let c1_i32_57 : BitVec 32 := 1#32
  let v69 : BitVec 32 := Scalar.addi v68 c1_i32_57
  let c128_i32_98 : BitVec 32 := 128#32
  ![v69.toNat, 128]
def k1_off43 (k1_t3 : Fin k1_t3_loop.trips) : Fin 3 → Nat :=
  let c1_i32_100 : BitVec 32 := 1#32
  let v138 : Index := Scalar.indexCast c1_i32_100
  let c4_i32 : BitVec 32 := 4#32
  let v139 : Index := Scalar.indexCast c4_i32
  let c0_i32_82 : BitVec 32 := 0#32
  let c0_i32_65 : BitVec 32 := 0#32
  let c1_i32_67 : BitVec 32 := 1#32
  let arg13 : BitVec 32 := Scf.iv c0_i32_65 c1_i32_67 k1_t3
  let c1_i32_81 : BitVec 32 := 1#32
  let v96 : BitVec 32 := Scalar.muli arg13 c1_i32_81
  let v97 : BitVec 32 := Scalar.addi c0_i32_82 v96
  let c16_i32_99 : BitVec 32 := 16#32
  let v137 : BitVec 32 := Scalar.muli v97 c16_i32_99
  let v140 : Index := Scalar.indexCast v137
  ![1, 4, v140.toNat]
def k1_off44 (k1_t1 : Fin k1_t1_loop.trips) : Fin 2 → Nat :=
  let c0_i32_11 : BitVec 32 := 0#32
  let c1_i32_12 : BitVec 32 := 1#32
  let arg12 : BitVec 32 := Scf.iv c0_i32_11 c1_i32_12 k1_t1
  let c2_i32_56 : BitVec 32 := 2#32
  let v68 : BitVec 32 := Scalar.muli arg12 c2_i32_56
  let c1_i32_57 : BitVec 32 := 1#32
  let v69 : BitVec 32 := Scalar.addi v68 c1_i32_57
  let c160_i32 : BitVec 32 := 160#32
  ![v69.toNat, 160]
def k1_off45 (k1_t3 : Fin k1_t3_loop.trips) : Fin 3 → Nat :=
  let c1_i32_102 : BitVec 32 := 1#32
  let v146 : Index := Scalar.indexCast c1_i32_102
  let c5_i32 : BitVec 32 := 5#32
  let v147 : Index := Scalar.indexCast c5_i32
  let c0_i32_82 : BitVec 32 := 0#32
  let c0_i32_65 : BitVec 32 := 0#32
  let c1_i32_67 : BitVec 32 := 1#32
  let arg13 : BitVec 32 := Scf.iv c0_i32_65 c1_i32_67 k1_t3
  let c1_i32_81 : BitVec 32 := 1#32
  let v96 : BitVec 32 := Scalar.muli arg13 c1_i32_81
  let v97 : BitVec 32 := Scalar.addi c0_i32_82 v96
  let c16_i32_101 : BitVec 32 := 16#32
  let v145 : BitVec 32 := Scalar.muli v97 c16_i32_101
  let v148 : Index := Scalar.indexCast v145
  ![1, 5, v148.toNat]
def k1_off46 (k1_t1 : Fin k1_t1_loop.trips) : Fin 2 → Nat :=
  let c0_i32_11 : BitVec 32 := 0#32
  let c1_i32_12 : BitVec 32 := 1#32
  let arg12 : BitVec 32 := Scf.iv c0_i32_11 c1_i32_12 k1_t1
  let c2_i32_56 : BitVec 32 := 2#32
  let v68 : BitVec 32 := Scalar.muli arg12 c2_i32_56
  let c1_i32_57 : BitVec 32 := 1#32
  let v69 : BitVec 32 := Scalar.addi v68 c1_i32_57
  let c192_i32 : BitVec 32 := 192#32
  ![v69.toNat, 192]
def k1_off47 (k1_t3 : Fin k1_t3_loop.trips) : Fin 3 → Nat :=
  let c1_i32_104 : BitVec 32 := 1#32
  let v154 : Index := Scalar.indexCast c1_i32_104
  let c6_i32 : BitVec 32 := 6#32
  let v155 : Index := Scalar.indexCast c6_i32
  let c0_i32_82 : BitVec 32 := 0#32
  let c0_i32_65 : BitVec 32 := 0#32
  let c1_i32_67 : BitVec 32 := 1#32
  let arg13 : BitVec 32 := Scf.iv c0_i32_65 c1_i32_67 k1_t3
  let c1_i32_81 : BitVec 32 := 1#32
  let v96 : BitVec 32 := Scalar.muli arg13 c1_i32_81
  let v97 : BitVec 32 := Scalar.addi c0_i32_82 v96
  let c16_i32_103 : BitVec 32 := 16#32
  let v153 : BitVec 32 := Scalar.muli v97 c16_i32_103
  let v156 : Index := Scalar.indexCast v153
  ![1, 6, v156.toNat]
def k1_off48 (k1_t1 : Fin k1_t1_loop.trips) : Fin 2 → Nat :=
  let c0_i32_11 : BitVec 32 := 0#32
  let c1_i32_12 : BitVec 32 := 1#32
  let arg12 : BitVec 32 := Scf.iv c0_i32_11 c1_i32_12 k1_t1
  let c2_i32_56 : BitVec 32 := 2#32
  let v68 : BitVec 32 := Scalar.muli arg12 c2_i32_56
  let c1_i32_57 : BitVec 32 := 1#32
  let v69 : BitVec 32 := Scalar.addi v68 c1_i32_57
  let c224_i32 : BitVec 32 := 224#32
  ![v69.toNat, 224]
def k1_off49 (k1_t3 : Fin k1_t3_loop.trips) : Fin 3 → Nat :=
  let c1_i32_106 : BitVec 32 := 1#32
  let v162 : Index := Scalar.indexCast c1_i32_106
  let c7_i32 : BitVec 32 := 7#32
  let v163 : Index := Scalar.indexCast c7_i32
  let c0_i32_82 : BitVec 32 := 0#32
  let c0_i32_65 : BitVec 32 := 0#32
  let c1_i32_67 : BitVec 32 := 1#32
  let arg13 : BitVec 32 := Scf.iv c0_i32_65 c1_i32_67 k1_t3
  let c1_i32_81 : BitVec 32 := 1#32
  let v96 : BitVec 32 := Scalar.muli arg13 c1_i32_81
  let v97 : BitVec 32 := Scalar.addi c0_i32_82 v96
  let c16_i32_105 : BitVec 32 := 16#32
  let v161 : BitVec 32 := Scalar.muli v97 c16_i32_105
  let v164 : Index := Scalar.indexCast v161
  ![1, 7, v164.toNat]
def k1_off50 (k1_t1 : Fin k1_t1_loop.trips) : Fin 2 → Nat :=
  let c0_i32_11 : BitVec 32 := 0#32
  let c1_i32_12 : BitVec 32 := 1#32
  let arg12 : BitVec 32 := Scf.iv c0_i32_11 c1_i32_12 k1_t1
  let c2_i32_56 : BitVec 32 := 2#32
  let v68 : BitVec 32 := Scalar.muli arg12 c2_i32_56
  let c1_i32_57 : BitVec 32 := 1#32
  let v69 : BitVec 32 := Scalar.addi v68 c1_i32_57
  let c256_i32 : BitVec 32 := 256#32
  ![v69.toNat, 256]
def k1_off51 (k1_t3 : Fin k1_t3_loop.trips) : Fin 3 → Nat :=
  let c1_i32_108 : BitVec 32 := 1#32
  let v170 : Index := Scalar.indexCast c1_i32_108
  let c8_i32 : BitVec 32 := 8#32
  let v171 : Index := Scalar.indexCast c8_i32
  let c0_i32_82 : BitVec 32 := 0#32
  let c0_i32_65 : BitVec 32 := 0#32
  let c1_i32_67 : BitVec 32 := 1#32
  let arg13 : BitVec 32 := Scf.iv c0_i32_65 c1_i32_67 k1_t3
  let c1_i32_81 : BitVec 32 := 1#32
  let v96 : BitVec 32 := Scalar.muli arg13 c1_i32_81
  let v97 : BitVec 32 := Scalar.addi c0_i32_82 v96
  let c16_i32_107 : BitVec 32 := 16#32
  let v169 : BitVec 32 := Scalar.muli v97 c16_i32_107
  let v172 : Index := Scalar.indexCast v169
  ![1, 8, v172.toNat]
def k1_off52 (k1_t1 : Fin k1_t1_loop.trips) : Fin 2 → Nat :=
  let c0_i32_11 : BitVec 32 := 0#32
  let c1_i32_12 : BitVec 32 := 1#32
  let arg12 : BitVec 32 := Scf.iv c0_i32_11 c1_i32_12 k1_t1
  let c2_i32_56 : BitVec 32 := 2#32
  let v68 : BitVec 32 := Scalar.muli arg12 c2_i32_56
  let c1_i32_57 : BitVec 32 := 1#32
  let v69 : BitVec 32 := Scalar.addi v68 c1_i32_57
  let c288_i32 : BitVec 32 := 288#32
  ![v69.toNat, 288]
def k1_off53 (k1_t3 : Fin k1_t3_loop.trips) : Fin 3 → Nat :=
  let c1_i32_110 : BitVec 32 := 1#32
  let v178 : Index := Scalar.indexCast c1_i32_110
  let c9_i32 : BitVec 32 := 9#32
  let v179 : Index := Scalar.indexCast c9_i32
  let c0_i32_82 : BitVec 32 := 0#32
  let c0_i32_65 : BitVec 32 := 0#32
  let c1_i32_67 : BitVec 32 := 1#32
  let arg13 : BitVec 32 := Scf.iv c0_i32_65 c1_i32_67 k1_t3
  let c1_i32_81 : BitVec 32 := 1#32
  let v96 : BitVec 32 := Scalar.muli arg13 c1_i32_81
  let v97 : BitVec 32 := Scalar.addi c0_i32_82 v96
  let c16_i32_109 : BitVec 32 := 16#32
  let v177 : BitVec 32 := Scalar.muli v97 c16_i32_109
  let v180 : Index := Scalar.indexCast v177
  ![1, 9, v180.toNat]
def k1_off54 (k1_t1 : Fin k1_t1_loop.trips) : Fin 2 → Nat :=
  let c0_i32_11 : BitVec 32 := 0#32
  let c1_i32_12 : BitVec 32 := 1#32
  let arg12 : BitVec 32 := Scf.iv c0_i32_11 c1_i32_12 k1_t1
  let c2_i32_56 : BitVec 32 := 2#32
  let v68 : BitVec 32 := Scalar.muli arg12 c2_i32_56
  let c1_i32_57 : BitVec 32 := 1#32
  let v69 : BitVec 32 := Scalar.addi v68 c1_i32_57
  let c320_i32 : BitVec 32 := 320#32
  ![v69.toNat, 320]
def k1_off55 (k1_t3 : Fin k1_t3_loop.trips) : Fin 3 → Nat :=
  let c1_i32_112 : BitVec 32 := 1#32
  let v186 : Index := Scalar.indexCast c1_i32_112
  let c10_i32 : BitVec 32 := 10#32
  let v187 : Index := Scalar.indexCast c10_i32
  let c0_i32_82 : BitVec 32 := 0#32
  let c0_i32_65 : BitVec 32 := 0#32
  let c1_i32_67 : BitVec 32 := 1#32
  let arg13 : BitVec 32 := Scf.iv c0_i32_65 c1_i32_67 k1_t3
  let c1_i32_81 : BitVec 32 := 1#32
  let v96 : BitVec 32 := Scalar.muli arg13 c1_i32_81
  let v97 : BitVec 32 := Scalar.addi c0_i32_82 v96
  let c16_i32_111 : BitVec 32 := 16#32
  let v185 : BitVec 32 := Scalar.muli v97 c16_i32_111
  let v188 : Index := Scalar.indexCast v185
  ![1, 10, v188.toNat]
def k1_off56 (k1_t1 : Fin k1_t1_loop.trips) : Fin 2 → Nat :=
  let c0_i32_11 : BitVec 32 := 0#32
  let c1_i32_12 : BitVec 32 := 1#32
  let arg12 : BitVec 32 := Scf.iv c0_i32_11 c1_i32_12 k1_t1
  let c2_i32_56 : BitVec 32 := 2#32
  let v68 : BitVec 32 := Scalar.muli arg12 c2_i32_56
  let c1_i32_57 : BitVec 32 := 1#32
  let v69 : BitVec 32 := Scalar.addi v68 c1_i32_57
  let c352_i32 : BitVec 32 := 352#32
  ![v69.toNat, 352]

def k1_chk2 (v101 : IVec S16 32) : Prop :=
  (∀ a x, ((![v101] : Fin 1 → IVec S16 32) a x).toNat < S32.size a) ∧
  (∀ a x, ((![v101] : Fin 1 → IVec S16 32) a x).toNat < S32.size a) ∧
  (∀ a x, ((![v101] : Fin 1 → IVec S16 32) a x).toNat < S32.size a) ∧
  (∀ a x, ((![v101] : Fin 1 → IVec S16 32) a x).toNat < S32.size a) ∧
  (∀ a x, ((![v101] : Fin 1 → IVec S16 32) a x).toNat < S32.size a) ∧
  (∀ a x, ((![v101] : Fin 1 → IVec S16 32) a x).toNat < S32.size a) ∧
  (∀ a x, ((![v101] : Fin 1 → IVec S16 32) a x).toNat < S32.size a) ∧
  (∀ a x, ((![v101] : Fin 1 → IVec S16 32) a x).toNat < S32.size a) ∧
  (∀ a x, ((![v101] : Fin 1 → IVec S16 32) a x).toNat < S32.size a) ∧
  (∀ a x, ((![v101] : Fin 1 → IVec S16 32) a x).toNat < S32.size a) ∧
  (∀ a x, ((![v101] : Fin 1 → IVec S16 32) a x).toNat < S32.size a) ∧
  (∀ a x, ((![v101] : Fin 1 → IVec S16 32) a x).toNat < S32.size a)
theorem k1_idx13_inb : ∀ (v101 : IVec S16 32) (k1_hw2 : k1_chk2 v101), ∀ a x, ((![v101] : Fin 1 → IVec S16 32) a x).toNat < S32.size a := fun v101 k1_hw2 => k1_hw2.1
theorem k1_idx14_inb : ∀ (v101 : IVec S16 32) (k1_hw2 : k1_chk2 v101), ∀ a x, ((![v101] : Fin 1 → IVec S16 32) a x).toNat < S32.size a := fun v101 k1_hw2 => k1_hw2.2.1
theorem k1_idx15_inb : ∀ (v101 : IVec S16 32) (k1_hw2 : k1_chk2 v101), ∀ a x, ((![v101] : Fin 1 → IVec S16 32) a x).toNat < S32.size a := fun v101 k1_hw2 => k1_hw2.2.2.1
theorem k1_idx16_inb : ∀ (v101 : IVec S16 32) (k1_hw2 : k1_chk2 v101), ∀ a x, ((![v101] : Fin 1 → IVec S16 32) a x).toNat < S32.size a := fun v101 k1_hw2 => k1_hw2.2.2.2.1
theorem k1_idx17_inb : ∀ (v101 : IVec S16 32) (k1_hw2 : k1_chk2 v101), ∀ a x, ((![v101] : Fin 1 → IVec S16 32) a x).toNat < S32.size a := fun v101 k1_hw2 => k1_hw2.2.2.2.2.1
theorem k1_idx18_inb : ∀ (v101 : IVec S16 32) (k1_hw2 : k1_chk2 v101), ∀ a x, ((![v101] : Fin 1 → IVec S16 32) a x).toNat < S32.size a := fun v101 k1_hw2 => k1_hw2.2.2.2.2.2.1
theorem k1_idx19_inb : ∀ (v101 : IVec S16 32) (k1_hw2 : k1_chk2 v101), ∀ a x, ((![v101] : Fin 1 → IVec S16 32) a x).toNat < S32.size a := fun v101 k1_hw2 => k1_hw2.2.2.2.2.2.2.1
theorem k1_idx20_inb : ∀ (v101 : IVec S16 32) (k1_hw2 : k1_chk2 v101), ∀ a x, ((![v101] : Fin 1 → IVec S16 32) a x).toNat < S32.size a := fun v101 k1_hw2 => k1_hw2.2.2.2.2.2.2.2.1
theorem k1_idx21_inb : ∀ (v101 : IVec S16 32) (k1_hw2 : k1_chk2 v101), ∀ a x, ((![v101] : Fin 1 → IVec S16 32) a x).toNat < S32.size a := fun v101 k1_hw2 => k1_hw2.2.2.2.2.2.2.2.2.1
theorem k1_idx22_inb : ∀ (v101 : IVec S16 32) (k1_hw2 : k1_chk2 v101), ∀ a x, ((![v101] : Fin 1 → IVec S16 32) a x).toNat < S32.size a := fun v101 k1_hw2 => k1_hw2.2.2.2.2.2.2.2.2.2.1
theorem k1_idx23_inb : ∀ (v101 : IVec S16 32) (k1_hw2 : k1_chk2 v101), ∀ a x, ((![v101] : Fin 1 → IVec S16 32) a x).toNat < S32.size a := fun v101 k1_hw2 => k1_hw2.2.2.2.2.2.2.2.2.2.2.1
theorem k1_idx24_inb : ∀ (v101 : IVec S16 32) (k1_hw2 : k1_chk2 v101), ∀ a x, ((![v101] : Fin 1 → IVec S16 32) a x).toNat < S32.size a := fun v101 k1_hw2 => k1_hw2.2.2.2.2.2.2.2.2.2.2.2
def k1_off57 (k1_t3 : Fin k1_t3_loop.trips) : Fin 3 → Nat :=
  let c1_i32_114 : BitVec 32 := 1#32
  let v194 : Index := Scalar.indexCast c1_i32_114
  let c11_i32 : BitVec 32 := 11#32
  let v195 : Index := Scalar.indexCast c11_i32
  let c0_i32_82 : BitVec 32 := 0#32
  let c0_i32_65 : BitVec 32 := 0#32
  let c1_i32_67 : BitVec 32 := 1#32
  let arg13 : BitVec 32 := Scf.iv c0_i32_65 c1_i32_67 k1_t3
  let c1_i32_81 : BitVec 32 := 1#32
  let v96 : BitVec 32 := Scalar.muli arg13 c1_i32_81
  let v97 : BitVec 32 := Scalar.addi c0_i32_82 v96
  let c16_i32_113 : BitVec 32 := 16#32
  let v193 : BitVec 32 := Scalar.muli v97 c16_i32_113
  let v196 : Index := Scalar.indexCast v193
  ![1, 11, v196.toNat]
def k1_cond4 (k1_t1 : Fin k1_t1_loop.trips) : BitVec 1 :=
  let c0_i32_11 : BitVec 32 := 0#32
  let c1_i32_12 : BitVec 32 := 1#32
  let arg12 : BitVec 32 := Scf.iv c0_i32_11 c1_i32_12 k1_t1
  let c2_i32_56 : BitVec 32 := 2#32
  let v68 : BitVec 32 := Scalar.muli arg12 c2_i32_56
  let c1_i32_57 : BitVec 32 := 1#32
  let v69 : BitVec 32 := Scalar.addi v68 c1_i32_57
  let c2_i32_78 : BitVec 32 := 2#32
  let v92 : BitVec 32 := Scalar.addi v69 c2_i32_78
  let c64_i32_79 : BitVec 32 := 64#32
  let v93 : BitVec 1 := Scalar.cmpi .slt v92 c64_i32_79
  let v94 : BitVec 32 := Scalar.extui v93
  let c0_i32_80 : BitVec 32 := 0#32
  let v95 : BitVec 1 := Scalar.cmpi .ne v94 c0_i32_80
  v95

def k1_off58 (i : grid1.Coords) (k1_t1 : Fin k1_t1_loop.trips) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c64_i32 : BitVec 32 := 64#32
  let v2 : BitVec 32 := Scalar.muli v1 c64_i32
  let c0_i32_11 : BitVec 32 := 0#32
  let c1_i32_12 : BitVec 32 := 1#32
  let arg12 : BitVec 32 := Scf.iv c0_i32_11 c1_i32_12 k1_t1
  let c2_i32_56 : BitVec 32 := 2#32
  let v68 : BitVec 32 := Scalar.muli arg12 c2_i32_56
  let c1_i32_57 : BitVec 32 := 1#32
  let v69 : BitVec 32 := Scalar.addi v68 c1_i32_57
  let c2_i32_81 : BitVec 32 := 2#32
  let v96 : BitVec 32 := Scalar.addi v69 c2_i32_81
  let v97 : BitVec 32 := Scalar.addi v2 v96
  let c0_i32_84 : BitVec 32 := 0#32
  ![v97.toNat, 0]
def k1_off59 (i : grid1.Coords) (c62_i32 : BitVec 32) : Fin 3 → Nat :=
  let c0_i32_17 : BitVec 32 := 0#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c64_i32 : BitVec 32 := 64#32
  let v2 : BitVec 32 := Scalar.muli v1 c64_i32
  let v22 : BitVec 32 := Scalar.addi v2 c62_i32
  let c0_i32_18 : BitVec 32 := 0#32
  ![0, v22.toNat, 0]
abbrev scKind : Fin 1 → Kind := fun | 0 => .scVector | ⟨_ + 1, h⟩ => absurd h (Nat.not_lt.2 (Nat.le_add_left _ _))
abbrev scNCore : Fin 1 → Nat := fun | 0 => 2 | ⟨_ + 1, h⟩ => absurd h (Nat.not_lt.2 (Nat.le_add_left _ _))
abbrev scNSub : Fin 1 → Nat := fun | 0 => 16 | ⟨_ + 1, h⟩ => absurd h (Nat.not_lt.2 (Nat.le_add_left _ _))
-- ==== ReferenceIdeal.lean ====
abbrev S1x12x2048x64 : Shape := ⟨4, ![1, 12, 2048, 64]⟩
abbrev S1x2048x2048x1 : Shape := ⟨4, ![1, 2048, 2048, 1]⟩
abbrev S22x768 : Shape := ⟨2, ![22, 768]⟩
abbrev S_ : Shape := ⟨0, ![]⟩
abbrev S1 : Shape := ⟨1, ![1]⟩
abbrev S768 : Shape := ⟨1, ![768]⟩
abbrev S22x12x64 : Shape := ⟨3, ![22, 12, 64]⟩
abbrev S1x2048x2048 : Shape := ⟨3, ![1, 2048, 2048]⟩
abbrev S12x22x1x2048 : Shape := ⟨4, ![12, 22, 1, 2048]⟩
abbrev S1x12x2048x22 : Shape := ⟨4, ![1, 12, 2048, 22]⟩
abbrev S1x1x2048x2048 : Shape := ⟨4, ![1, 1, 2048, 2048]⟩
abbrev S1x12x2048x2048 : Shape := ⟨4, ![1, 12, 2048, 2048]⟩
abbrev S12x2048x2048x1 : Shape := ⟨4, ![12, 2048, 2048, 1]⟩
abbrev S1x1x1x1 : Shape := ⟨4, ![1, 1, 1, 1]⟩
abbrev S12x2048x2048 : Shape := ⟨3, ![12, 2048, 2048]⟩

abbrev nBuf : Space → Nat
  | .hbm => 37
  | .vmem => 0
  | .smem => 0
  | _ => 0

abbrev bufTy : (tb : Table) → Fin (tcTables nBuf tb) → BufTy
  | .hbm, ⟨0, _⟩ => ⟨S1x12x2048x64, .f32⟩
  | .hbm, ⟨1, _⟩ => ⟨S1x2048x2048x1, .i32⟩
  | .hbm, ⟨2, _⟩ => ⟨S22x768, .f32⟩
  | .hbm, ⟨3, _⟩ => ⟨S_, .i32⟩
  | .hbm, ⟨4, _⟩ => ⟨S1, .i32⟩
  | .hbm, ⟨5, _⟩ => ⟨S_, .f32⟩
  | .hbm, ⟨6, _⟩ => ⟨S768, .f32⟩
  | .hbm, ⟨7, _⟩ => ⟨S22x768, .f32⟩
  | .hbm, ⟨8, _⟩ => ⟨S22x12x64, .f32⟩
  | .hbm, ⟨9, _⟩ => ⟨S1x2048x2048, .i32⟩
  | .hbm, ⟨10, _⟩ => ⟨S12x22x1x2048, .f32⟩
  | .hbm, ⟨11, _⟩ => ⟨S1x12x2048x22, .f32⟩
  | .hbm, ⟨12, _⟩ => ⟨S1x1x2048x2048, .i32⟩
  | .hbm, ⟨13, _⟩ => ⟨S1x12x2048x2048, .i32⟩
  | .hbm, ⟨14, _⟩ => ⟨S_, .i32⟩
  | .hbm, ⟨15, _⟩ => ⟨S1x12x2048x2048, .i32⟩
  | .hbm, ⟨16, _⟩ => ⟨S1x12x2048x2048, .i1⟩
  | .hbm, ⟨17, _⟩ => ⟨S_, .i32⟩
  | .hbm, ⟨18, _⟩ => ⟨S1x12x2048x2048, .i32⟩
  | .hbm, ⟨19, _⟩ => ⟨S1x12x2048x2048, .i32⟩
  | .hbm, ⟨20, _⟩ => ⟨S1x12x2048x2048, .i32⟩
  | .hbm, ⟨21, _⟩ => ⟨S12x2048x2048x1, .i32⟩
  | .hbm, ⟨22, _⟩ => ⟨S1, .i32⟩
  | .hbm, ⟨23, _⟩ => ⟨S_, .i32⟩
  | .hbm, ⟨24, _⟩ => ⟨S12x2048x2048x1, .i32⟩
  | .hbm, ⟨25, _⟩ => ⟨S12x2048x2048x1, .i1⟩
  | .hbm, ⟨26, _⟩ => ⟨S1x1x1x1, .i32⟩
  | .hbm, ⟨27, _⟩ => ⟨S12x2048x2048x1, .i32⟩
  | .hbm, ⟨28, _⟩ => ⟨S12x2048x2048x1, .i1⟩
  | .hbm, ⟨29, _⟩ => ⟨S12x2048x2048x1, .i1⟩
  | .hbm, ⟨30, _⟩ => ⟨S_, .i1⟩
  | .hbm, ⟨31, _⟩ => ⟨S12x2048x2048, .i1⟩
  | .hbm, ⟨32, _⟩ => ⟨S1x12x2048x2048, .f32⟩
  | .hbm, ⟨33, _⟩ => ⟨S1x12x2048x2048, .i1⟩
  | .hbm, ⟨34, _⟩ => ⟨S_, .f32⟩
  | .hbm, ⟨35, _⟩ => ⟨S1x12x2048x2048, .f32⟩
  | .hbm, ⟨36, _⟩ => ⟨S1x12x2048x2048, .f32⟩
  | _, _ => ⟨S1x12x2048x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_c : Ref sig .tc := ⟨.hbm, 3, rfl⟩
abbrev main_v0 : Ref sig .tc := ⟨.hbm, 4, rfl⟩
abbrev main_cst : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_call0_c : Ref sig .tc := ⟨.hbm, 14, rfl⟩
abbrev main_call0_v0 : Ref sig .tc := ⟨.hbm, 15, rfl⟩
abbrev main_call0_v1 : Ref sig .tc := ⟨.hbm, 16, rfl⟩
abbrev main_call0_c_0 : Ref sig .tc := ⟨.hbm, 17, rfl⟩
abbrev main_call0_v2 : Ref sig .tc := ⟨.hbm, 18, rfl⟩
abbrev main_call0_v3 : Ref sig .tc := ⟨.hbm, 19, rfl⟩
abbrev main_call0_v4 : Ref sig .tc := ⟨.hbm, 20, rfl⟩
abbrev main_call0_v5 : Ref sig .tc := ⟨.hbm, 21, rfl⟩
abbrev main_call0_c_1 : Ref sig .tc := ⟨.hbm, 22, rfl⟩
abbrev main_call0_c_2 : Ref sig .tc := ⟨.hbm, 23, rfl⟩
abbrev main_call0_v6 : Ref sig .tc := ⟨.hbm, 24, rfl⟩
abbrev main_call0_v7 : Ref sig .tc := ⟨.hbm, 25, rfl⟩
abbrev main_call0_v8 : Ref sig .tc := ⟨.hbm, 26, rfl⟩
abbrev main_call0_v9 : Ref sig .tc := ⟨.hbm, 27, rfl⟩
abbrev main_call0_v10 : Ref sig .tc := ⟨.hbm, 28, rfl⟩
abbrev main_call0_v11 : Ref sig .tc := ⟨.hbm, 29, rfl⟩
abbrev main_call0_c_3 : Ref sig .tc := ⟨.hbm, 30, rfl⟩
abbrev main_call0_v12 : Ref sig .tc := ⟨.hbm, 31, rfl⟩
abbrev main_call0_v13 : Ref sig .tc := ⟨.hbm, 32, rfl⟩
abbrev main_call0_v14 : Ref sig .tc := ⟨.hbm, 33, rfl⟩
abbrev main_call0_cst : Ref sig .tc := ⟨.hbm, 34, rfl⟩
abbrev main_call0_v15 : Ref sig .tc := ⟨.hbm, 35, rfl⟩
abbrev main_v9 : Ref sig .tc := ⟨.hbm, 36, rfl⟩

abbrev nD : Nat := 1
abbrev τ : Topo := Topo.v7x

variable {F : FTy → Type} [FloatOps F]
-- ==== Proof.Offsets.lean ====
module

public import proofs.«01_k».proof.Proof.Gen.KernelIdeal.Skeleton

/-!
# The kernel's offsets in closed form

The kernel computes every offset of its copies, loads and stores with 32-bit arithmetic. Here each is
evaluated: on the subcore of coordinates `i` the rows worked on are `base i, …, base i + 63`, trip `t` of the
outer loop works on rows `base i + 2 t` (slot 0) and `base i + 2 t + 1` (slot 1).
-/

@[expose] public section

set_option maxRecDepth 65536

namespace Cert.Proof.Kern

open Cert.KernelIdeal Cert.KernelIdeal.Gen
open Idealize.ShloMosaic

/-- The first row of the subcore at coordinates `i`. -/
def base (i : grid1.Coords) : ℕ := (2 * (i 1).val + (i 0).val) * 64

theorem base_lt (i : grid1.Coords) : base i + 64 ≤ 2048 := by
  have h0 : (i 0).val < 2 := (i 0).isLt
  have h1 : (i 1).val < 16 := (i 1).isLt
  unfold base; omega

theorem t1_trips : k1_t1_loop.trips = 32 := by decide +kernel
theorem t2_trips : k1_t2_loop.trips = 128 := by decide +kernel
theorem t3_trips : k1_t3_loop.trips = 128 := by decide +kernel

/-! ## The copies -/

theorem off1_eq : ∀ i : grid1.Coords, k1_off1 i = ![base i, 0] := by decide +kernel
theorem off2_eq0 : ∀ i : grid1.Coords, k1_off2 i 0#32 = ![base i + 2 * 0, 0] := by decide +kernel
theorem off2_eq1 : ∀ i : grid1.Coords, k1_off2 i 1#32 = ![base i + 2 * 0 + 1, 0] := by decide +kernel
theorem off3_eq0 : ∀ (i : grid1.Coords) (t : Fin k1_t1_loop.trips), k1_off3 i t 0#32 = ![base i + 2 * t.val, 0] := by decide +kernel
theorem off3_eq1 : ∀ (i : grid1.Coords) (t : Fin k1_t1_loop.trips), k1_off3 i t 1#32 = ![base i + 2 * t.val + 1, 0] := by decide +kernel
theorem off4_eq : ∀ (i : grid1.Coords) (t : Fin k1_t1_loop.trips), k1_cond1 t = 1#1 → k1_off4 i t = ![0, base i + 2 * (t.val - 1), 0] := by decide +kernel
theorem off30_eq0 : ∀ (i : grid1.Coords) (t : Fin k1_t1_loop.trips), k1_off30 i t 0#32 = ![0, base i + 2 * t.val, 0] := by decide +kernel
theorem off30_eq1 : ∀ (i : grid1.Coords) (t : Fin k1_t1_loop.trips), k1_off30 i t 1#32 = ![0, base i + 2 * t.val + 1, 0] := by decide +kernel
theorem off31_eq : ∀ (i : grid1.Coords) (t : Fin k1_t1_loop.trips), k1_off31 i t = ![base i + 2 * (t.val + 1), 0] := by decide +kernel
theorem off32_eq : ∀ (i : grid1.Coords) (t : Fin k1_t1_loop.trips), k1_cond3 t = 1#1 → k1_off32 i t = ![0, base i + 2 * (t.val - 1) + 1, 0] := by decide +kernel
theorem off58_eq : ∀ (i : grid1.Coords) (t : Fin k1_t1_loop.trips), k1_off58 i t = ![base i + 2 * (t.val + 1) + 1, 0] := by decide +kernel
theorem off59_eq0 : ∀ i : grid1.Coords, k1_off59 i 62#32 = ![0, base i + 2 * 31, 0] := by decide +kernel
theorem off59_eq1 : ∀ i : grid1.Coords, k1_off59 i 63#32 = ![0, base i + 2 * 31 + 1, 0] := by decide +kernel

theorem cond1_iff : ∀ t : Fin k1_t1_loop.trips, k1_cond1 t = 1#1 ↔ 0 < t.val := by decide +kernel
theorem cond2_iff : ∀ t : Fin k1_t1_loop.trips, k1_cond2 t = 1#1 ↔ t.val + 1 < 32 := by decide +kernel
theorem cond3_iff : ∀ t : Fin k1_t1_loop.trips, k1_cond3 t = 1#1 ↔ 0 < t.val := by decide +kernel
theorem cond4_iff : ∀ t : Fin k1_t1_loop.trips, k1_cond4 t = 1#1 ↔ t.val + 1 < 32 := by decide +kernel

/-! ## The index loads -/

theorem off5_eq : ∀ t : Fin k1_t2_loop.trips, k1_off5 t = ![0, 16 * t.val] := by decide +kernel
theorem off33_eq : ∀ t : Fin k1_t3_loop.trips, k1_off33 t = ![1, 16 * t.val] := by decide +kernel

/-! ## The table reads and the stores, one of each per head -/

theorem off6_eq : ∀ t : Fin k1_t1_loop.trips, k1_off6 t = ![2 * t.val, 32 * 0] := by decide +kernel
theorem off7_eq : ∀ t : Fin k1_t2_loop.trips, k1_off7 t = ![0, 0, 16 * t.val] := by decide +kernel
theorem off8_eq : ∀ t : Fin k1_t1_loop.trips, k1_off8 t = ![2 * t.val, 32 * 1] := by decide +kernel
theorem off9_eq : ∀ t : Fin k1_t2_loop.trips, k1_off9 t = ![0, 1, 16 * t.val] := by decide +kernel
theorem off10_eq : ∀ t : Fin k1_t1_loop.trips, k1_off10 t = ![2 * t.val, 32 * 2] := by decide +kernel
theorem off11_eq : ∀ t : Fin k1_t2_loop.trips, k1_off11 t = ![0, 2, 16 * t.val] := by decide +kernel
theorem off12_eq : ∀ t : Fin k1_t1_loop.trips, k1_off12 t = ![2 * t.val, 32 * 3] := by decide +kernel
theorem off13_eq : ∀ t : Fin k1_t2_loop.trips, k1_off13 t = ![0, 3, 16 * t.val] := by decide +kernel
theorem off14_eq : ∀ t : Fin k1_t1_loop.trips, k1_off14 t = ![2 * t.val, 32 * 4] := by decide +kernel
theorem off15_eq : ∀ t : Fin k1_t2_loop.trips, k1_off15 t = ![0, 4, 16 * t.val] := by decide +kernel
theorem off16_eq : ∀ t : Fin k1_t1_loop.trips, k1_off16 t = ![2 * t.val, 32 * 5] := by decide +kernel
theorem off17_eq : ∀ t : Fin k1_t2_loop.trips, k1_off17 t = ![0, 5, 16 * t.val] := by decide +kernel
theorem off18_eq : ∀ t : Fin k1_t1_loop.trips, k1_off18 t = ![2 * t.val, 32 * 6] := by decide +kernel
theorem off19_eq : ∀ t : Fin k1_t2_loop.trips, k1_off19 t = ![0, 6, 16 * t.val] := by decide +kernel
theorem off20_eq : ∀ t : Fin k1_t1_loop.trips, k1_off20 t = ![2 * t.val, 32 * 7] := by decide +kernel
theorem off21_eq : ∀ t : Fin k1_t2_loop.trips, k1_off21 t = ![0, 7, 16 * t.val] := by decide +kernel
theorem off22_eq : ∀ t : Fin k1_t1_loop.trips, k1_off22 t = ![2 * t.val, 32 * 8] := by decide +kernel
theorem off23_eq : ∀ t : Fin k1_t2_loop.trips, k1_off23 t = ![0, 8, 16 * t.val] := by decide +kernel
theorem off24_eq : ∀ t : Fin k1_t1_loop.trips, k1_off24 t = ![2 * t.val, 32 * 9] := by decide +kernel
theorem off25_eq : ∀ t : Fin k1_t2_loop.trips, k1_off25 t = ![0, 9, 16 * t.val] := by decide +kernel
theorem off26_eq : ∀ t : Fin k1_t1_loop.trips, k1_off26 t = ![2 * t.val, 32 * 10] := by decide +kernel
theorem off27_eq : ∀ t : Fin k1_t2_loop.trips, k1_off27 t = ![0, 10, 16 * t.val] := by decide +kernel
theorem off28_eq : ∀ t : Fin k1_t1_loop.trips, k1_off28 t = ![2 * t.val, 32 * 11] := by decide +kernel
theorem off29_eq : ∀ t : Fin k1_t2_loop.trips, k1_off29 t = ![0, 11, 16 * t.val] := by decide +kernel
theorem off34_eq : ∀ t : Fin k1_t1_loop.trips, k1_off34 t = ![2 * t.val + 1, 32 * 0] := by decide +kernel
theorem off35_eq : ∀ t : Fin k1_t3_loop.trips, k1_off35 t = ![1, 0, 16 * t.val] := by decide +kernel
theorem off36_eq : ∀ t : Fin k1_t1_loop.trips, k1_off36 t = ![2 * t.val + 1, 32 * 1] := by decide +kernel
theorem off37_eq : ∀ t : Fin k1_t3_loop.trips, k1_off37 t = ![1, 1, 16 * t.val] := by decide +kernel
theorem off38_eq : ∀ t : Fin k1_t1_loop.trips, k1_off38 t = ![2 * t.val + 1, 32 * 2] := by decide +kernel
theorem off39_eq : ∀ t : Fin k1_t3_loop.trips, k1_off39 t = ![1, 2, 16 * t.val] := by decide +kernel
theorem off40_eq : ∀ t : Fin k1_t1_loop.trips, k1_off40 t = ![2 * t.val + 1, 32 * 3] := by decide +kernel
theorem off41_eq : ∀ t : Fin k1_t3_loop.trips, k1_off41 t = ![1, 3, 16 * t.val] := by decide +kernel
theorem off42_eq : ∀ t : Fin k1_t1_loop.trips, k1_off42 t = ![2 * t.val + 1, 32 * 4] := by decide +kernel
theorem off43_eq : ∀ t : Fin k1_t3_loop.trips, k1_off43 t = ![1, 4, 16 * t.val] := by decide +kernel
theorem off44_eq : ∀ t : Fin k1_t1_loop.trips, k1_off44 t = ![2 * t.val + 1, 32 * 5] := by decide +kernel
theorem off45_eq : ∀ t : Fin k1_t3_loop.trips, k1_off45 t = ![1, 5, 16 * t.val] := by decide +kernel
theorem off46_eq : ∀ t : Fin k1_t1_loop.trips, k1_off46 t = ![2 * t.val + 1, 32 * 6] := by decide +kernel
theorem off47_eq : ∀ t : Fin k1_t3_loop.trips, k1_off47 t = ![1, 6, 16 * t.val] := by decide +kernel
theorem off48_eq : ∀ t : Fin k1_t1_loop.trips, k1_off48 t = ![2 * t.val + 1, 32 * 7] := by decide +kernel
theorem off49_eq : ∀ t : Fin k1_t3_loop.trips, k1_off49 t = ![1, 7, 16 * t.val] := by decide +kernel
theorem off50_eq : ∀ t : Fin k1_t1_loop.trips, k1_off50 t = ![2 * t.val + 1, 32 * 8] := by decide +kernel
theorem off51_eq : ∀ t : Fin k1_t3_loop.trips, k1_off51 t = ![1, 8, 16 * t.val] := by decide +kernel
theorem off52_eq : ∀ t : Fin k1_t1_loop.trips, k1_off52 t = ![2 * t.val + 1, 32 * 9] := by decide +kernel
theorem off53_eq : ∀ t : Fin k1_t3_loop.trips, k1_off53 t = ![1, 9, 16 * t.val] := by decide +kernel
theorem off54_eq : ∀ t : Fin k1_t1_loop.trips, k1_off54 t = ![2 * t.val + 1, 32 * 10] := by decide +kernel
theorem off55_eq : ∀ t : Fin k1_t3_loop.trips, k1_off55 t = ![1, 10, 16 * t.val] := by decide +kernel
theorem off56_eq : ∀ t : Fin k1_t1_loop.trips, k1_off56 t = ![2 * t.val + 1, 32 * 11] := by decide +kernel
theorem off57_eq : ∀ t : Fin k1_t3_loop.trips, k1_off57 t = ![1, 11, 16 * t.val] := by decide +kernel

end Cert.Proof.Kern

end
-- ==== Proof.Setup.lean ====
module

public import proofs.«01_k».proof.Defs
public import Idealize.ShloMosaic.Lib.SparseCore.Quiescent
public import Idealize.ShloMosaic.Lib.SparseCore.Ops
public import Idealize.ShloMosaic.Lib.SparseCore.Stream
public import Idealize.ShloMosaic.Lib.StableHlo.Run
public import Idealize.ShloMosaic.Lib.Pipeline.Kit
public import Idealize.ShloMosaic.Lib.Pipeline.Value
public import Idealize.ShloMosaic.Lib.ValueIdxCore
public import Idealize.ShloMosaic.Lib.ViewIndex
public import Idealize.ShloMosaic.Lib.Tactic
public import proofs.«01_k».proof.Proof.Gen.KernelIdeal
public import proofs.«01_k».proof.Proof.Gen.KernelIdeal.Skeleton
public import proofs.«01_k».proof.Proof.Gen.Pre_in_table
public import proofs.«01_k».proof.Proof.Offsets

/-!
# The program, its ghost state, and the pieces of its buffers

The kernel's memory references by the names the proof uses, the sets of elements its copies, loads and stores
touch, where each of them places an element, and the values the SparseCore's part computes.
-/

@[expose] public section

noncomputable section

namespace Cert.Proof.Kern

open Cert.KernelIdeal Cert.KernelIdeal.Gen
open Idealize.ShloMosaic
open Idealize.ShloMosaic.SparseCore (S V T)
open Idealize.ShloMosaic.SparseCore.Cfg (HIx Pay tileRest ownBufs ownSems0 ownCells ownRefs mem_ownCells mem_ownRefs)
open Idealize.ShloMosaic.ValueIdx
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

/-! ## The program's configuration -/

abbrev ΛP : Labels := Pipeline.Sig Λ₀ (Fin 1) fun p => (pcfgs (F := F) p).Adm
abbrev K : SparseCore.Cfg τ sig (ΛP (F := F)) 1 := sc (F := F)
abbrev D [FloatOps F] : Defs nD τ sig (Elt F) (ΛP (F := F)) := Pipeline.defs pcfgs defs₀
abbrev 𝒱₀ : Variants := Variants.none
abbrev 𝒱 : Variants := 𝒱₀.lift
abbrev v₀ : 𝒱.V := Sum.inl none

theorem facts : (K (F := F)).Facts :=
  ⟨show sc_start ≠ sc_taskDone by decide, show (SemLoc.reg sc_start : SemLoc sig).isScoped .scScalar = false by decide,
    show (SemLoc.reg sc_taskDone : SemLoc sig).isScoped .scScalar = false by decide, show (SemLoc.reg sc_go : SemLoc sig).isScoped .scVector = false by decide,
    show (SemLoc.reg sc_done : SemLoc sig).isScoped .tc = false by decide, show ∀ (b : DevRef τ sig) (c : Fin τ.nSC), b.owner = .sc c → sig.taskShared b.table b.idx = false by decide,
    fun _ => rfl⟩

/-! ## The ghost state: the handshakes' rounds, the TensorCore call's rounds, the local copies' counters -/

abbrev UH : Type := URounds (GSem nD τ sig) ℕ
abbrev UR' : Type := URounds (GSem nD τ sig) Unit
abbrev UU : Type := UH × (UR' × Counters)

local notation "𝕄" => MT nD τ sig (HIx 1) (Elt F) ℕ UU ℕ

abbrev EH : Emb UH (MT nD τ sig (HIx 1) (Elt F) ℕ UU ℕ) := embL
abbrev EP : Emb UR' (MT nD τ sig (HIx 1) (Elt F) ℕ UU ℕ) := (Emb.inl : Emb UR' (UR' × Counters)).trans embR

/-! ## The memory references of the SparseCore's kernel -/

/-- The score table, the relative positions, the result; the subcore's table rows, index rows and output planes. -/
abbrev xV : Memref sig .scVector .hbm S2048x384 .f32 := Memref.whole main_v7_scv
abbrev rV : Memref sig .scVector .hbm S2048x2048 .i32 := Memref.whole main_v8_scv
abbrev oV : Memref sig .scVector .hbm S12x2048x2048 .f32 := Memref.whole main_v9_scv
abbrev sT : Memref sig .scVector .vmem S64x384 .f32 := Memref.whole cc1_scratch0
abbrev sI : Memref sig .scVector .vmem S2x2048 .i32 := Memref.whole cc1_scratch1
abbrev sO : Memref sig .scVector .vmem S2x12x2048 .f32 := Memref.whole cc1_scratch2

abbrev tRows (off : Fin 2 → ℕ) (inb : ∀ a, off a + S64x384.size a ≤ S2048x384.size a) : Memref sig .scVector .hbm S64x384 .f32 :=
  xV.slice (Rect.unit (s := S2048x384) off S64x384.size inb) (fun _ => rfl)
abbrev rRow (off : Fin 2 → ℕ) (inb : ∀ a, off a + S1x2048.size a ≤ S2048x2048.size a) : Memref sig .scVector .hbm S2048 .i32 :=
  (rV.slice (Rect.unit (s := S2048x2048) off S1x2048.size inb) (fun _ => rfl)).squeeze S2048 squeezes_S1x2048_S2048
abbrev iRow (off : Fin 2 → ℕ) (inb : ∀ a, off a + S1x2048.size a ≤ S2x2048.size a) : Memref sig .scVector .vmem S2048 .i32 :=
  (sI.slice (Rect.unit (s := S2x2048) off S1x2048.size inb) (fun _ => rfl)).squeeze S2048 squeezes_S1x2048_S2048
abbrev oRow (off : Fin 3 → ℕ) (inb : ∀ a, off a + S12x1x2048.size a ≤ S12x2048x2048.size a) : Memref sig .scVector .hbm S12x2048 .f32 :=
  (oV.slice (Rect.unit (s := S12x2048x2048) off S12x1x2048.size inb) (fun _ => rfl)).squeeze S12x2048 squeezes_S12x1x2048_S12x2048
abbrev oPlane (off : Fin 3 → ℕ) (inb : ∀ a, off a + S1x12x2048.size a ≤ S2x12x2048.size a) : Memref sig .scVector .vmem S12x2048 .f32 :=
  (sO.slice (Rect.unit (s := S2x12x2048) off S1x12x2048.size inb) (fun _ => rfl)).squeeze S12x2048 squeezes_S1x12x2048_S12x2048
abbrev tSeg (off : Fin 2 → ℕ) (inb : ∀ a, off a + S1x32.size a ≤ S64x384.size a) : Memref sig .scVector .vmem S32 .f32 :=
  (sT.slice (Rect.unit (s := S64x384) off S1x32.size inb) (fun _ => rfl)).squeeze S32 squeezes_S1x32_S32

/-! ## The sets of elements -/

/-- Row `r` of the relative positions. -/
def rSet (r : ℕ) : Finset S2048x2048.Idx := Finset.univ.filter fun x => (x 0).val = r
/-- Slot `b` of the index rows. -/
def iSet (b : ℕ) : Finset S2x2048.Idx := Finset.univ.filter fun x => (x 0).val = b
/-- Row `r` of the result, all heads. -/
def oSet (r : ℕ) : Finset S12x2048x2048.Idx := Finset.univ.filter fun x => (x 1).val = r
/-- Rows `lo, …, hi - 1` of the result. -/
def oRange (lo hi : ℕ) : Finset S12x2048x2048.Idx := Finset.univ.filter fun x => lo ≤ (x 1).val ∧ (x 1).val < hi
/-- Plane `b` of the output planes. -/
def pSet (b : ℕ) : Finset S2x12x2048.Idx := Finset.univ.filter fun x => (x 0).val = b

theorem mem_rSet {r : ℕ} {x : S2048x2048.Idx} : x ∈ rSet r ↔ (x 0).val = r := by simp [rSet]
theorem mem_iSet {b : ℕ} {x : S2x2048.Idx} : x ∈ iSet b ↔ (x 0).val = b := by simp [iSet]
theorem mem_oSet {r : ℕ} {x : S12x2048x2048.Idx} : x ∈ oSet r ↔ (x 1).val = r := by simp [oSet]
theorem mem_oRange {lo hi : ℕ} {x : S12x2048x2048.Idx} : x ∈ oRange lo hi ↔ lo ≤ (x 1).val ∧ (x 1).val < hi := by simp [oRange]
theorem mem_pSet {b : ℕ} {x : S2x12x2048.Idx} : x ∈ pSet b ↔ (x 0).val = b := by simp [pSet]

theorem set_rRow {off inb} {r : ℕ} (h : off = ![r, 0]) : (rRow off inb).view.set = rSet r := by
  subst h
  show (((View.whole main_v8_scv).slice (Rect.unit (s := S2048x2048) _ S1x2048.size inb)).reshape S2048 squeezes_S1x2048_S2048.numel_eq).set = _
  rw [View.set_reshape, View.set_slice_whole]
  ext x
  refine Rect.mem_set_unit.trans ?_
  rw [mem_rSet]
  have h1 : (x 1).val < 2048 := (x 1).isLt
  constructor
  · intro h; have := h 0; simp at this; omega
  · intro h a
    match a with
    | ⟨0, _⟩ => simp; omega
    | ⟨1, _⟩ => simpa using h1

theorem set_iRow {off inb} {b : ℕ} (h : off = ![b, 0]) : (iRow off inb).view.set = iSet b := by
  subst h
  show (((View.whole cc1_scratch1).slice (Rect.unit (s := S2x2048) _ S1x2048.size inb)).reshape S2048 squeezes_S1x2048_S2048.numel_eq).set = _
  rw [View.set_reshape, View.set_slice_whole]
  ext x
  refine Rect.mem_set_unit.trans ?_
  rw [mem_iSet]
  have h1 : (x 1).val < 2048 := (x 1).isLt
  constructor
  · intro h; have := h 0; simp at this; omega
  · intro h a
    match a with
    | ⟨0, _⟩ => simp; omega
    | ⟨1, _⟩ => simpa using h1

theorem set_oRow {off inb} {r : ℕ} (h : off = ![0, r, 0]) : (oRow off inb).view.set = oSet r := by
  subst h
  show (((View.whole main_v9_scv).slice (Rect.unit (s := S12x2048x2048) _ S12x1x2048.size inb)).reshape S12x2048 squeezes_S12x1x2048_S12x2048.numel_eq).set = _
  rw [View.set_reshape, View.set_slice_whole]
  ext x
  refine Rect.mem_set_unit.trans ?_
  rw [mem_oSet]
  have h0 : (x 0).val < 12 := (x 0).isLt
  have h2 : (x 2).val < 2048 := (x 2).isLt
  constructor
  · intro h; have := h 1; simp at this; omega
  · intro h a
    match a with
    | ⟨0, _⟩ => simpa using h0
    | ⟨1, _⟩ => simp; omega
    | ⟨2, _⟩ => simp; exact h2

theorem set_oPlane {off inb} {b : ℕ} (h : off = ![b, 0, 0]) : (oPlane off inb).view.set = pSet b := by
  subst h
  show (((View.whole cc1_scratch2).slice (Rect.unit (s := S2x12x2048) _ S1x12x2048.size inb)).reshape S12x2048 squeezes_S1x12x2048_S12x2048.numel_eq).set = _
  rw [View.set_reshape, View.set_slice_whole]
  ext x
  refine Rect.mem_set_unit.trans ?_
  rw [mem_pSet]
  have h1 : (x 1).val < 12 := (x 1).isLt
  have h2 : (x 2).val < 2048 := (x 2).isLt
  constructor
  · intro h; have := h 0; simp at this; omega
  · intro h a
    match a with
    | ⟨0, _⟩ => simp; omega
    | ⟨1, _⟩ => simpa using h1
    | ⟨2, _⟩ => simp; exact h2

/-! ## Where the references place an element -/

theorem emb_rRow {off inb} {r : ℕ} (h : off = ![r, 0]) (hr : r < 2048) (j : S2048.Idx) :
    (rRow off inb).view.emb j = (ix2 ⟨r, hr⟩ (j 0) : S2048x2048.Idx) := by
  subst h
  show (Rect.unit (s := S2048x2048) _ S1x2048.size inb).emb (Shape.reshapeEquiv squeezes_S1x2048_S2048.numel_eq j) = _
  rw [Shape.reshapeEquiv_eq_of_rowMajor (y := (ix2 (0 : Fin 1) (j 0) : S1x2048.Idx)) _ (by
    rw [Shape.rowMajor_val_two, Shape.rowMajor_val_one]; show 0 * _ + (j 0).val = (j 0).val; omega)]
  funext a
  match a with
  | ⟨0, _⟩ => apply Fin.ext; rw [Rect.emb_apply]; simp [ix2]
  | ⟨1, _⟩ => apply Fin.ext; rw [Rect.emb_apply]; simp [ix2]

theorem emb_iRow {off inb} {b : ℕ} (h : off = ![b, 0]) (hb : b < 2) (j : S2048.Idx) :
    (iRow off inb).view.emb j = (ix2 ⟨b, hb⟩ (j 0) : S2x2048.Idx) := by
  subst h
  show (Rect.unit (s := S2x2048) _ S1x2048.size inb).emb (Shape.reshapeEquiv squeezes_S1x2048_S2048.numel_eq j) = _
  rw [Shape.reshapeEquiv_eq_of_rowMajor (y := (ix2 (0 : Fin 1) (j 0) : S1x2048.Idx)) _ (by
    rw [Shape.rowMajor_val_two, Shape.rowMajor_val_one]; show 0 * _ + (j 0).val = (j 0).val; omega)]
  funext a
  match a with
  | ⟨0, _⟩ => apply Fin.ext; rw [Rect.emb_apply]; simp [ix2]
  | ⟨1, _⟩ => apply Fin.ext; rw [Rect.emb_apply]; simp [ix2]

theorem emb_tSeg {off inb} {r c : ℕ} (h : off = ![r, c]) (hr : r < 64) (j : S32.Idx) (hc : c + (j 0).val < 384) :
    (tSeg off inb).view.emb j = (ix2 ⟨r, hr⟩ ⟨c + (j 0).val, hc⟩ : S64x384.Idx) := by
  subst h
  show (Rect.unit (s := S64x384) _ S1x32.size inb).emb (Shape.reshapeEquiv squeezes_S1x32_S32.numel_eq j) = _
  rw [Shape.reshapeEquiv_eq_of_rowMajor (y := (ix2 (0 : Fin 1) (j 0) : S1x32.Idx)) _ (by
    rw [Shape.rowMajor_val_two, Shape.rowMajor_val_one]; show 0 * _ + (j 0).val = (j 0).val; omega)]
  funext a
  match a with
  | ⟨0, _⟩ => apply Fin.ext; rw [Rect.emb_apply]; simp [ix2]
  | ⟨1, _⟩ => apply Fin.ext; rw [Rect.emb_apply]; simp [ix2]

theorem emb_oRow {off inb} {r : ℕ} (h : off = ![0, r, 0]) (hr : r < 2048) (j : S12x2048.Idx) :
    (oRow off inb).view.emb j = (ix3 (j 0) ⟨r, hr⟩ (j 1) : S12x2048x2048.Idx) := by
  subst h
  show (Rect.unit (s := S12x2048x2048) _ S12x1x2048.size inb).emb (Shape.reshapeEquiv squeezes_S12x1x2048_S12x2048.numel_eq j) = _
  rw [Shape.reshapeEquiv_eq_of_rowMajor (y := (ix3 (j 0) (0 : Fin 1) (j 1) : S12x1x2048.Idx)) _ (by
    rw [Shape.rowMajor_val_three, Shape.rowMajor_val_two]
    show ((j 0).val * 1 + 0) * 2048 + (j 1).val = (j 0).val * 2048 + (j 1).val; omega)]
  funext a
  match a with
  | ⟨0, _⟩ => apply Fin.ext; rw [Rect.emb_apply]; simp [ix3]
  | ⟨1, _⟩ => apply Fin.ext; rw [Rect.emb_apply]; simp [ix3]
  | ⟨2, _⟩ => apply Fin.ext; rw [Rect.emb_apply]; simp [ix3]

theorem emb_oPlane {off inb} {b : ℕ} (h : off = ![b, 0, 0]) (hb : b < 2) (j : S12x2048.Idx) :
    (oPlane off inb).view.emb j = (ix3 ⟨b, hb⟩ (j 0) (j 1) : S2x12x2048.Idx) := by
  subst h
  show (Rect.unit (s := S2x12x2048) _ S1x12x2048.size inb).emb (Shape.reshapeEquiv squeezes_S1x12x2048_S12x2048.numel_eq j) = _
  rw [Shape.reshapeEquiv_eq_of_rowMajor (y := (ix3 (0 : Fin 1) (j 0) (j 1) : S1x12x2048.Idx)) _ (by
    rw [Shape.rowMajor_val_three, Shape.rowMajor_val_two]
    show (0 * 12 + (j 0).val) * 2048 + (j 1).val = (j 0).val * 2048 + (j 1).val; omega)]
  funext a
  match a with
  | ⟨0, _⟩ => apply Fin.ext; rw [Rect.emb_apply]; simp [ix3]
  | ⟨1, _⟩ => apply Fin.ext; rw [Rect.emb_apply]; simp [ix3]
  | ⟨2, _⟩ => apply Fin.ext; rw [Rect.emb_apply]; simp [ix3]

theorem emb_tRows {off inb} {r : ℕ} (h : off = ![r, 0]) (j : S64x384.Idx) (hr : r + (j 0).val < 2048) :
    (tRows off inb).view.emb j = (ix2 ⟨r + (j 0).val, hr⟩ (j 1) : S2048x384.Idx) := by
  subst h
  show (Rect.unit (s := S2048x384) _ S64x384.size inb).emb j = _
  funext a
  match a with
  | ⟨0, _⟩ => apply Fin.ext; rw [Rect.emb_apply]; simp [ix2]
  | ⟨1, _⟩ => apply Fin.ext; rw [Rect.emb_apply]; simp [ix2]

/-! ## The values -/

/-- Element `(h, r, k)` of the result, from the score table `X` and the relative positions `R`: entry
    `R (r, k)` of row `r` of head `h`'s 32 columns. (The remainders are there to make it total; they do nothing.) -/
def Gv (X : S2048x384.Idx → Elt F .f32) (R : S2048x2048.Idx → BitVec 32) (r : ℕ) (h : ℕ) (k : Fin 2048) : Elt F .f32 :=
  X (ix2 (Fin.ofNat 2048 r) (Fin.ofNat 384 (32 * h + (R (ix2 (Fin.ofNat 2048 r) k)).toNat)))

/-- The whole result. -/
def G (X : S2048x384.Idx → Elt F .f32) (R : S2048x2048.Idx → BitVec 32) : S12x2048x2048.Idx → Elt F .f32 :=
  fun x => Gv X R (x 1).val (x 0).val (x 2)

/-- An index row holding row `r` of the relative positions, whichever the slot. -/
def rowF (R : S2048x2048.Idx → BitVec 32) (r : ℕ) : S2x2048.Idx → BitVec 32 := fun x => R (ix2 (Fin.ofNat 2048 r) (x 1))

/-- The table rows: 64 rows of the score table from row `r`. -/
def tabF (X : S2048x384.Idx → Elt F .f32) (r : ℕ) : S64x384.Idx → Elt F .f32 := fun x => X (ix2 (Fin.ofNat 2048 (r + (x 0).val)) (x 1))

/-- An output plane holding row `r` of the result, whichever the plane. -/
def plaF (X : S2048x384.Idx → Elt F .f32) (R : S2048x2048.Idx → BitVec 32) (r : ℕ) : S2x12x2048.Idx → Elt F .f32 :=
  fun x => Gv X R r (x 1).val (x 2)

/-- What one 16-lane table read returns: lane `j` is entry `v j` of row `r`'s 32 columns of head `h`. -/
def gat (f : S64x384.Idx → Elt F .f32) (r h : ℕ) (v : S16.Idx → BitVec 32) : S16.Idx → Elt F .f32 :=
  fun j => f (ix2 (Fin.ofNat 64 r) (Fin.ofNat 384 (32 * h + (v j).toNat)))

/-- Plane `b` holds `g` at the positions before lane group `t`, and in lane group `t` for the heads before `h`. -/
def Done (b t h : ℕ) (g : ℕ → Fin 2048 → Elt F .f32) (f : S2x12x2048.Idx → Elt F .f32) : Prop :=
  ∀ x : S2x12x2048.Idx, (x 0).val = b → ((x 2).val < 16 * t ∨ ((x 2).val < 16 * (t + 1) ∧ (x 1).val < h)) → f x = g (x 1).val (x 2)

theorem Done.zero (b : ℕ) (g : ℕ → Fin 2048 → Elt F .f32) (f : S2x12x2048.Idx → Elt F .f32) : Done b 0 0 g f := by
  intro x _ h; rcases h with h | h <;> omega

theorem Done.next {b t : ℕ} {g : ℕ → Fin 2048 → Elt F .f32} {f : S2x12x2048.Idx → Elt F .f32} (h : Done b t 12 g f) : Done b (t + 1) 0 g f := by
  intro x h0 h1
  have : (x 1).val < 12 := (x 1).isLt
  refine h x h0 ?_
  rcases h1 with h1 | h1 <;> omega

end Cert.Proof.Kern

end
-- ==== Proof.Step.lean ====
module

public import proofs.«01_k».proof.Proof.Setup

/-!
# The kernel's single steps

Each copy, table read, load and store of the SparseCore's kernel as one rule at the head of a program, in terms of
the sets and values of the set-up.
-/

@[expose] public section

noncomputable section

namespace Cert.Proof.Kern

open Cert.KernelIdeal Cert.KernelIdeal.Gen
open Idealize.ShloMosaic
open Idealize.ShloMosaic.SparseCore (S V T)
open Idealize.ShloMosaic.SparseCore.Cfg (HIx Pay tileRest ownBufs ownSems0 ownCells ownRefs mem_ownCells mem_ownRefs)
open Idealize.ShloMosaic.ValueIdx
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

local notation "𝕄" => MT nD τ sig (HIx 1) (Elt F) ℕ UU ℕ

/-! ## What the copies leave -/

theorem write_iRow {off inb off' inb'} {b r : ℕ} (h : off = ![b, 0]) (hb : b < 2) (h' : off' = ![r, 0]) (hr : r < 2048)
    (f : S2x2048.Idx → BitVec 32) (R : S2048x2048.Idx → BitVec 32) :
    ∀ x ∈ iSet b, (iRow off inb).view.write (Elt F) f ((ReadAs.same : ReadAs (Elt F) S2048 .i32 S2048 .i32).apply ((rRow off' inb').view.read (Elt F) R)) Finset.univ x = rowF R r x := by
  intro x hx
  rw [mem_iSet] at hx
  have e : x = (iRow off inb).view.emb (ix1 (x 1) : S2048.Idx) := by
    rw [emb_iRow h hb]
    refine (eq_ix2 x).trans ?_
    have : x 0 = (⟨b, hb⟩ : Fin 2) := Fin.ext hx
    rw [this]; rfl
  have hN : Fin.ofNat 2048 r = (⟨r, hr⟩ : Fin 2048) := Fin.ext (Nat.mod_eq_of_lt hr)
  rw [e, View.write_emb_of_mem _ _ (Finset.mem_univ _), ← e]
  show cast _ ((rRow off' inb').view.read (Elt F) R (ix1 (x 1))) = _
  rw [View.read_apply, emb_rRow h' hr]
  show R (ix2 ⟨r, hr⟩ (x 1)) = R (ix2 (Fin.ofNat 2048 r) (x 1))
  rw [hN]

theorem write_oRow {off inb off' inb'} {b r : ℕ} (h : off = ![0, r, 0]) (hr : r < 2048) (h' : off' = ![b, 0, 0]) (hb : b < 2)
    (f : S12x2048x2048.Idx → Elt F .f32) (X : S2048x384.Idx → Elt F .f32) (R : S2048x2048.Idx → BitVec 32) :
    ∀ x ∈ oSet r, (oRow off inb).view.write (Elt F) f ((ReadAs.same : ReadAs (Elt F) S12x2048 .f32 S12x2048 .f32).apply
      ((oPlane off' inb').view.read (Elt F) (plaF X R r))) Finset.univ x = G X R x := by
  intro x hx
  rw [mem_oSet] at hx
  have e : x = (oRow off inb).view.emb (ix2 (x 0) (x 2) : S12x2048.Idx) := by
    rw [emb_oRow h hr]
    refine (eq_ix3 x).trans ?_
    have : x 1 = (⟨r, hr⟩ : Fin 2048) := Fin.ext hx
    rw [this]; rfl
  rw [e, View.write_emb_of_mem _ _ (Finset.mem_univ _), ← e]
  show cast _ ((oPlane off' inb').view.read (Elt F) (plaF X R r) (ix2 (x 0) (x 2))) = _
  rw [View.read_apply, emb_oPlane h' hb]
  show Gv X R r (x 0).val (x 2) = Gv X R (x 1).val (x 0).val (x 2)
  rw [hx]

theorem write_sT {off inb} {r : ℕ} (h : off = ![r, 0]) (hr : r + 64 ≤ 2048)
    (f : S64x384.Idx → Elt F .f32) (X : S2048x384.Idx → Elt F .f32) :
    sT.view.write (Elt F) f ((ReadAs.same : ReadAs (Elt F) S64x384 .f32 S64x384 .f32).apply ((tRows off inb).view.read (Elt F) X)) Finset.univ = tabF X r := by
  rw [View.write_whole_univ]
  funext x
  have hx : (x 0).val < 64 := (x 0).isLt
  have hN : Fin.ofNat 2048 (r + (x 0).val) = (⟨r + (x 0).val, by omega⟩ : Fin 2048) := Fin.ext (Nat.mod_eq_of_lt (by omega))
  show (tRows off inb).view.read (Elt F) X x = _
  rw [View.read_apply, emb_tRows h x (by omega)]
  show X (ix2 ⟨r + (x 0).val, _⟩ (x 1)) = X (ix2 (Fin.ofNat 2048 (r + (x 0).val)) (x 1))
  rw [hN]

/-! ## The steps -/

section Steps

variable [FloatOps F] (d : Dev nD) (i : grid1.Coords)

abbrev cV (i : grid1.Coords) : Fin τ.nSC := (i 0).castLE hcore1
abbrev jV (i : grid1.Coords) : Fin τ.nSub := (i 1).castLE hsub1
/-- The subcore's thread. -/
abbrev thr : Thread nD τ := V d (cV i) (jV i)

/-- The buffers of the subcore's thread, by their references. -/
abbrev xLoc : Loc nD τ sig := xV.view.loc (thr d i)
abbrev rLoc : Loc nD τ sig := rV.view.loc (thr d i)
abbrev oLoc : Loc nD τ sig := oV.view.loc (thr d i)
abbrev tLoc : Loc nD τ sig := sT.view.loc (thr d i)
abbrev iLoc : Loc nD τ sig := sI.view.loc (thr d i)
abbrev pLoc : Loc nD τ sig := sO.view.loc (thr d i)

/-- A table read. -/
theorem step_gather {off : Fin 2 → ℕ} {inb} {r h : ℕ} (ho : off = ![r, 32 * h]) (hr : r < 64) (hh : h < 12) (v : IVec S16 32)
    {hinb : ∀ a x, ((![v] : Fin 1 → IVec S16 32) a x).toNat < S32.size a} {hl : (tSeg off inb).view.Loads}
    {β : Type} {Φ : β → sProp 𝕄} {k : Vec F S16 .f32 → Prog (TpuEff nD τ sig (Elt F) Λ₀ (thr d i).2) β} {q : PosShare TreeShare} {f : S64x384.Idx → Elt F .f32} :
    (tLoc d i ↦{q} f) ⊢ iprop(((tLoc d i ↦{q} f) -∗ wp frame (wpE (defs₀ (F := F)) 𝒱₀ (thr d i) none) Set.univ (k (gat f r h v)) Φ)
      -∗ wp frame (wpE (defs₀ (F := F)) 𝒱₀ (thr d i) none) Set.univ (SparseCore.vectorLoadIdx (tSeg off inb) ![v] hinb hl >>= k) Φ) := by
  have key : loadIdx (((tSeg off inb).access (.whole S32)).read (Elt F) f) ![v] hinb = gat f r h v := by
    funext j
    have hv : (v j).toNat < 32 := hinb 0 j
    show ((tSeg off inb).access (.whole S32)).read (Elt F) f (idxAt ![v] hinb j) = _
    rw [View.read_apply]
    have e : ((tSeg off inb).access (.whole S32)).emb (idxAt ![v] hinb j) = (tSeg off inb).view.emb (idxAt ![v] hinb j) := by
      show (tSeg off inb).view.emb ((Rect.whole S32).emb _) = _
      rw [Rect.emb_whole_apply]
    rw [e, emb_tSeg ho hr _ (show 32 * h + (v j).toNat < 384 by omega)]
    have h1 : Fin.ofNat 64 r = (⟨r, hr⟩ : Fin 64) := Fin.ext (Nat.mod_eq_of_lt hr)
    have h2 : Fin.ofNat 384 (32 * h + (v j).toNat) = (⟨32 * h + (v j).toNat, by omega⟩ : Fin 384) := Fin.ext (Nat.mod_eq_of_lt (by omega))
    show f (ix2 ⟨r, hr⟩ ⟨32 * h + (v j).toNat, _⟩) = f (ix2 (Fin.ofNat 64 r) (Fin.ofNat 384 (32 * h + (v j).toNat)))
    rw [h1, h2]
  rw [← key]
  exact SparseCore.wp_vectorLoadIdx 𝒱₀ (thr d i) none Set.univ (base := tSeg off inb) (S := Finset.univ) (q := q) (Finset.subset_univ _)

theorem access_subset {off : Fin 3 → ℕ} {inb} {b h t : ℕ} (ho : off = ![b, h, 16 * t]) :
    (sO.access (Rect.unit (s := S2x12x2048) off S1x1x16.size inb)).set ⊆ pSet b := by
  subst ho
  rw [View.set_slice_whole]
  intro x hx
  have hx := Rect.mem_set_unit.mp hx 0
  rw [mem_pSet]; simp at hx; omega

/-- A load of sixteen lanes of an output plane, whose value is not used. -/
theorem step_dead {off : Fin 3 → ℕ} {inb} {b h t : ℕ} (ho : off = ![b, h, 16 * t])
    {hl : sO.view.LoadsAt (Rect.unit (s := S2x12x2048) off S1x1x16.size inb).toLoadRect}
    {β : Type} {Φ : β → sProp 𝕄} {k : Vec F S1x1x16 .f32 → Prog (TpuEff nD τ sig (Elt F) Λ₀ (thr d i).2) β} {f : S2x12x2048.Idx → Elt F .f32} :
    (pLoc d i ↦[pSet b]{fullShare} f) ⊢ iprop((∀ v, (pLoc d i ↦[pSet b]{fullShare} f) -∗ wp frame (wpE (defs₀ (F := F)) 𝒱₀ (thr d i) none) Set.univ (k v) Φ)
      -∗ wp frame (wpE (defs₀ (F := F)) 𝒱₀ (thr d i) none) Set.univ (.op (.load sO (Rect.unit (s := S2x12x2048) off S1x1x16.size inb).toLoadRect hl) k) Φ) := by
  iintro H Hk
  iapply (wp_load_rect 𝒱₀ (thr d i) none Set.univ (m := sO) (r := Rect.unit (s := S2x12x2048) off S1x1x16.size inb) (S := pSet b) (access_subset ho)) $$ H
  iintro H
  iapply Hk $$ H

/-- A store of sixteen lanes of an output plane. -/
theorem step_store {off : Fin 3 → ℕ} {inb} {b h t : ℕ} (ho : off = ![b, h, 16 * t]) (hb : b < 2) (hh : h < 12) (ht : t < 128)
    {w : Vec F S16 .f32} {hx hm} {g : ℕ → Fin 2048 → Elt F .f32} (hw : ∀ j : S16.Idx, ∀ hj : 16 * t + (j 0).val < 2048, w j = g h ⟨16 * t + (j 0).val, hj⟩)
    {β : Type} {Φ : β → sProp 𝕄} {k : PUnit → Prog (TpuEff nD τ sig (Elt F) Λ₀ (thr d i).2) β} :
    iprop(∃ f, ⌜Done b t h g f⌝ ∗ (pLoc d i ↦[pSet b]{fullShare} f)) ⊢ iprop((iprop(∃ f, ⌜Done b t (h + 1) g f⌝ ∗ (pLoc d i ↦[pSet b]{fullShare} f)) -∗ wp frame (wpE (defs₀ (F := F)) 𝒱₀ (thr d i) none) Set.univ (k ⟨⟩) Φ)
      -∗ wp frame (wpE (defs₀ (F := F)) 𝒱₀ (thr d i) none) Set.univ (.op (.store sO (Rect.unit (s := S2x12x2048) off S1x1x16.size inb) (shapeCast S1x1x16 w shapeCasts_S16_S1x1x16) Finset.univ hx hm) k) Φ) := by
  iintro ⟨%f, %hD, H⟩ Hk
  iapply (wp_store 𝒱₀ (thr d i) none Set.univ (m := sO) (r := Rect.unit (s := S2x12x2048) off S1x1x16.size inb) (S := pSet b) (access_subset ho)) $$ H
  iintro H
  iapply Hk
  iexists ((sO.access (Rect.unit (s := S2x12x2048) off S1x1x16.size inb)).write (Elt F) f (shapeCast S1x1x16 w shapeCasts_S16_S1x1x16) Finset.univ)
  isplitr [H]
  · ipureintro
    subst ho
    intro x hx0 hx1
    by_cases hin : x ∈ (Rect.unit (s := S2x12x2048) ![b, h, 16 * t] S1x1x16.size inb).set
    · have hm := Rect.mem_set_unit.mp hin
      have m1 := hm 1
      have m2 := hm 2
      simp at m1 m2
      have hx2 : (x 2).val < 2048 := (x 2).isLt
      have e : (sO.access (Rect.unit (s := S2x12x2048) ![b, h, 16 * t] S1x1x16.size inb)).emb (ix3 (0 : Fin 1) (0 : Fin 1) (⟨(x 2).val - 16 * t, by omega⟩ : Fin 16) : S1x1x16.Idx) = x := by
        show (Rect.unit (s := S2x12x2048) ![b, h, 16 * t] S1x1x16.size inb).emb _ = _
        funext a
        match a with
        | ⟨0, _⟩ => apply Fin.ext; rw [Rect.emb_apply]; simp [ix3]; exact hx0.symm
        | ⟨1, _⟩ => apply Fin.ext; rw [Rect.emb_apply]; simp [ix3]; show h = (x 1).val; omega
        | ⟨2, _⟩ => apply Fin.ext; rw [Rect.emb_apply]; simp [ix3]; show 16 * t + ((x 2).val - 16 * t) = (x 2).val; omega
      conv_lhs => rw [← e]
      rw [View.write_emb_of_mem _ _ (Finset.mem_univ _)]
      show shapeCast S1x1x16 w shapeCasts_S16_S1x1x16 _ = _
      rw [shapeCast_apply w shapeCasts_S16_S1x1x16 _ (ix1 (⟨(x 2).val - 16 * t, by omega⟩ : Fin 16) : S16.Idx) (by
        rw [Shape.rowMajor_val_one, Shape.rowMajor_val_three]; show (x 2).val - 16 * t = (0 * 1 + 0) * 16 + ((x 2).val - 16 * t); omega)]
      have h2 : 16 * t + ((x 2).val - 16 * t) = (x 2).val := by omega
      rw [hw _ (show 16 * t + ((x 2).val - 16 * t) < 2048 by omega)]
      have h1 : (x 1).val = h := by omega
      rw [h1]
      congr 1
      exact Fin.ext h2
    · rw [View.write_of_not_mem _ _ _ (by
        intro hc; apply hin
        have := (View.setOn_subset_set _ _) hc
        rwa [View.set_slice_whole] at this)]
      refine hD x hx0 ?_
      rcases hx1 with hx1 | ⟨hx1, hx2⟩
      · exact Or.inl hx1
      · by_cases hlt : (x 2).val < 16 * t
        · exact Or.inl hlt
        · refine Or.inr ⟨hx1, ?_⟩
          by_contra hge
          apply hin
          refine Rect.mem_set_unit.mpr fun a => ?_
          match a with
          | ⟨0, _⟩ => show b ≤ (x 0).val ∧ (x 0).val < b + 1; omega
          | ⟨1, _⟩ => show h ≤ (x 1).val ∧ (x 1).val < h + 1; omega
          | ⟨2, _⟩ => show 16 * t ≤ (x 2).val ∧ (x 2).val < 16 * t + 16; omega
  · iexact H

/-- A load of sixteen lanes of an index row. -/
theorem step_idx {off : Fin 2 → ℕ} {inb} {b t : ℕ} (ho : off = ![b, 16 * t]) (ht : t < 128)
    {hl : sI.view.LoadsAt (Rect.unit (s := S2x2048) off S1x16.size inb).toLoadRect} {R : S2048x2048.Idx → BitVec 32} {r : ℕ}
    {β : Type} {Φ : β → sProp 𝕄} {k : Vec F S1x16 .i32 → Prog (TpuEff nD τ sig (Elt F) Λ₀ (thr d i).2) β} :
    (iLoc d i ↦[iSet b]{fullShare} rowF R r) ⊢ iprop((∀ v : Vec F S1x16 .i32,
          ⌜∀ j : S16.Idx, ∀ hj : 16 * t + (j 0).val < 2048, shapeCast S16 v shapeCasts_S1x16_S16 j = R (ix2 (Fin.ofNat 2048 r) ⟨16 * t + (j 0).val, hj⟩)⌝
          -∗ (iLoc d i ↦[iSet b]{fullShare} rowF R r) -∗ wp frame (wpE (defs₀ (F := F)) 𝒱₀ (thr d i) none) Set.univ (k v) Φ)
      -∗ wp frame (wpE (defs₀ (F := F)) 𝒱₀ (thr d i) none) Set.univ (.op (.load sI (Rect.unit (s := S2x2048) off S1x16.size inb).toLoadRect hl) k) Φ) := by
  iintro H Hk
  iapply (wp_load_rect 𝒱₀ (thr d i) none Set.univ (m := sI) (S := iSet b) (r := Rect.unit (s := S2x2048) off S1x16.size inb) (by
    subst ho
    rw [View.set_slice_whole]
    intro x hx
    have hx := Rect.mem_set_unit.mp hx 0
    rw [mem_iSet]; simp at hx; omega)) $$ H
  iintro H
  iapply Hk $$ [] [H]
  · ipureintro
    intro j hj
    subst ho
    have h16 : (j 0).val < 16 := (j 0).isLt
    rw [shapeCast_apply _ shapeCasts_S1x16_S16 j (ix2 (0 : Fin 1) (j 0) : S1x16.Idx) (by
        rw [Shape.rowMajor_val_one, Shape.rowMajor_val_two]; show 0 * 16 + (j 0).val = (j 0).val; omega)]
    rw [View.read_apply]
    show R (ix2 (Fin.ofNat 2048 r) _) = _
    congr 2
    apply Fin.ext
    show ((Rect.unit (s := S2x2048) ![b, 16 * t] S1x16.size inb).emb (ix2 (0 : Fin 1) (j 0) : S1x16.Idx) 1).val = _
    rw [Rect.emb_apply]; simp [ix2]
  · iexact H

/-! ## The copies -/

abbrev CRi : ℕ := (iRow ![0, 0] inb_S2x2048_S1x2048_0_0).view.dmaCredit
abbrev CRo : ℕ := (oPlane ![0, 0, 0] inb_S2x12x2048_S1x12x2048_0_0_0).view.dmaCredit

/-- A pending fetch of row `r` of the relative positions into slot `b`. -/
abbrev FlI (sm : DmaSem sig) (q : PosShare TreeShare) (R : S2048x2048.Idx → BitVec 32) (b r : ℕ) : sProp 𝕄 :=
  Transfers.Flight countersEmb (thr d i) (.dma sm) (default : HIx 1) CRi
    iprop((iLoc d i ↦[iSet b]{fullShare} rowF R r) ∗ (rLoc d i ↦[rSet r]{q} R))
/-- A pending write-out of plane `b` to row `r` of the result. -/
abbrev FlO (sm : DmaSem sig) (X : S2048x384.Idx → Elt F .f32) (R : S2048x2048.Idx → BitVec 32) (b r : ℕ) : sProp 𝕄 :=
  Transfers.Flight countersEmb (thr d i) (.dma sm) (default : HIx 1) CRo
    iprop((oLoc d i ↦[oSet r]{fullShare} G X R) ∗ (pLoc d i ↦[pSet b]{fullShare} plaF X R r))

theorem enq_idx {off inb off' inb'} {b r : ℕ} (h : off = ![b, 0]) (hb : b < 2) (h' : off' = ![r, 0]) (hr : r < 2048) {sm : DmaSem sig}
    {q : PosShare TreeShare} {f : S2x2048.Idx → BitVec 32} {R : S2048x2048.Idx → BitVec 32} {hsrc hdst hsem}
    {β : Type} {Φ : β → sProp 𝕄}
    {k : PUnit → Prog (TpuEff nD τ sig (Elt F) Λ₀ (thr d i).2) β} :
    iprop((rLoc d i ↦[rSet r]{q} R) ∗ (iLoc d i ↦[iSet b]{fullShare} f) ∗ semVal ((thr d i), .dma sm) 0)
      ⊢ iprop((FlI (F := F) d i sm q R b r -∗ wp frame (wpE (defs₀ (F := F)) 𝒱₀ (thr d i) none) Set.univ (k ⟨⟩) Φ)
        -∗ wp frame (wpE (defs₀ (F := F)) 𝒱₀ (thr d i) none) Set.univ (.op (.enqueueDma (rRow off' inb') (.here (iRow off inb)) (.dma sm) hsrc hdst hsem) k) Φ) := by
  iintro ⟨HR, HI, Hs⟩ Hk
  iapply (Transfers.wp_dmaLocal countersEmb 𝒱₀ (thr d i) none (default : HIx 1) CRi (show (iRow off inb).view.amount (.dma sm) = CRi from rfl)
    (View.amount_pos (iRow off inb).view (.dma sm) (show 0 < S2048.numel by decide)) (Sd := iSet b) (subset_of_eq (set_iRow h))
    (src := rRow off' inb') (dst := iRow off inb) (q := q) (fs := R) (fd := f)) $$ [HR HI Hs]
  · isplitl [HR]
    · rw [set_rRow h']; iexact HR
    isplitl [HI]; · iexact HI
    iexact Hs
  iintro HF
  iapply Hk
  have hD : iprop((iLoc d i ↦[iSet b]{fullShare} (iRow off inb).view.write (Elt F) f ((ReadAs.same : ReadAs (Elt F) S2048 .i32 S2048 .i32).apply ((rRow off' inb').view.read (Elt F) R)) Finset.univ)
      ∗ (rLoc d i ↦[(rRow off' inb').view.set]{q} R)) ⊢ (iprop((iLoc d i ↦[iSet b]{fullShare} rowF R r) ∗ (rLoc d i ↦[rSet r]{q} R)) : sProp 𝕄) := by
    rw [set_rRow h', pointsTo_congr (write_iRow (F := F) h hb h' hr f R)]
  iapply (Transfers.Flight_mono countersEmb (thr d i) hD) $$ HF

theorem enq_out {off inb off' inb'} {b r : ℕ} (h : off = ![0, r, 0]) (hr : r < 2048) (h' : off' = ![b, 0, 0]) (hb : b < 2) {sm : DmaSem sig}
    {f : S12x2048x2048.Idx → Elt F .f32} {X : S2048x384.Idx → Elt F .f32} {R : S2048x2048.Idx → BitVec 32} {hsrc hdst hsem}
    {β : Type} {Φ : β → sProp 𝕄}
    {k : PUnit → Prog (TpuEff nD τ sig (Elt F) Λ₀ (thr d i).2) β} :
    iprop((pLoc d i ↦[pSet b]{fullShare} plaF X R r) ∗ (oLoc d i ↦[oSet r]{fullShare} f) ∗ semVal ((thr d i), .dma sm) 0)
      ⊢ iprop((FlO d i sm X R b r -∗ wp frame (wpE (defs₀ (F := F)) 𝒱₀ (thr d i) none) Set.univ (k ⟨⟩) Φ)
        -∗ wp frame (wpE (defs₀ (F := F)) 𝒱₀ (thr d i) none) Set.univ (.op (.enqueueDma (oPlane off' inb') (.here (oRow off inb)) (.dma sm) hsrc hdst hsem) k) Φ) := by
  iintro ⟨HR, HI, Hs⟩ Hk
  iapply (Transfers.wp_dmaLocal countersEmb 𝒱₀ (thr d i) none (default : HIx 1) CRo (show (oRow off inb).view.amount (.dma sm) = CRo from rfl)
    (View.amount_pos (oRow off inb).view (.dma sm) (show 0 < S12x2048.numel by decide)) (Sd := oSet r) (subset_of_eq (set_oRow h))
    (src := oPlane off' inb') (dst := oRow off inb) (q := fullShare) (fs := plaF X R r) (fd := f)) $$ [HR HI Hs]
  · isplitl [HR]
    · rw [set_oPlane h']; iexact HR
    isplitl [HI]; · iexact HI
    iexact Hs
  iintro HF
  iapply Hk
  have hD : iprop((oLoc d i ↦[oSet r]{fullShare} (oRow off inb).view.write (Elt F) f ((ReadAs.same : ReadAs (Elt F) S12x2048 .f32 S12x2048 .f32).apply
        ((oPlane off' inb').view.read (Elt F) (plaF X R r))) Finset.univ)
      ∗ (pLoc d i ↦[(oPlane off' inb').view.set]{fullShare} plaF X R r)) ⊢ (iprop((oLoc d i ↦[oSet r]{fullShare} G X R) ∗ (pLoc d i ↦[pSet b]{fullShare} plaF X R r)) : sProp 𝕄) := by
    rw [set_oPlane h', pointsTo_congr (write_oRow h hr h' hb f X R)]
  iapply (Transfers.Flight_mono countersEmb (thr d i) hD) $$ HF

/-- What a subcore owes, and the record of its waits. -/
abbrev Ow (O : CellTallies nD τ sig (HIx 1)) (W : Waits sig (HIx 1)) : sProp 𝕄 :=
  iprop(∃ W', ⌜∀ p ∈ W', p ∈ W ∨ p.2 = none⌝ ∗ owes (thr d i) O W')

theorem wait_idx {off inb off' inb'} {b r : ℕ} {sm : DmaSem sig} {q : PosShare TreeShare} {R : S2048x2048.Idx → BitVec 32} {hsrc hdst}
    {O : CellTallies nD τ sig (HIx 1)} {W : Waits sig (HIx 1)} {β : Type} {Φ : β → sProp 𝕄}
    {k : PUnit → Prog (TpuEff nD τ sig (Elt F) Λ₀ (thr d i).2) β} :
    iprop(Transfers.MayWaits (thr d i) (default : HIx 1) O ∗ FlI (F := F) d i sm q R b r ∗ Ow (F := F) d i O W)
      ⊢ iprop((iprop((iLoc d i ↦[iSet b]{fullShare} rowF R r) ∗ (rLoc d i ↦[rSet r]{q} R) ∗ semVal ((thr d i), .dma sm) 0 ∗ Ow (F := F) d i O W) -∗ wp frame (wpE (defs₀ (F := F)) 𝒱₀ (thr d i) none) Set.univ (k ⟨⟩) Φ)
        -∗ wp frame (wpE (defs₀ (F := F)) 𝒱₀ (thr d i) none) Set.univ (.op (.waitDma2 sm (rRow off' inb') (iRow off inb) hsrc hdst) k) Φ) := by
  iintro ⟨Hmw, HF, ⟨%W', %hW', HO⟩⟩ Hk
  ihave Hm := (Transfers.MayWaits.elim (SemLoc.dma sm)) $$ Hmw
  iapply (Transfers.wp_waitLocalO countersEmb 𝒱₀ (thr d i) none (default : HIx 1) (show (iRow off inb).view.dmaCredit = CRi from rfl) (O := O) (W := W')) $$ [HF HO Hm]
  · isplitl [HF]; · iexact HF
    isplitl [HO]; · iexact HO
    iexact Hm
  iintro ⟨⟨HI, HR⟩, Hs, HO⟩
  iapply Hk
  isplitl [HI]; · iexact HI
  isplitl [HR]; · iexact HR
  isplitl [Hs]; · iexact Hs
  iexists (insert (SemLoc.dma sm, (default : HIx 1)) W')
  isplitr [HO]
  · ipureintro
    intro p hp
    rcases Finset.mem_insert.mp hp with rfl | hp
    · exact Or.inr rfl
    · exact hW' p hp
  · iexact HO

theorem wait_out {off inb off' inb'} {b r : ℕ} {sm : DmaSem sig} {X : S2048x384.Idx → Elt F .f32} {R : S2048x2048.Idx → BitVec 32} {hsrc hdst}
    {O : CellTallies nD τ sig (HIx 1)} {W : Waits sig (HIx 1)} {β : Type} {Φ : β → sProp 𝕄}
    {k : PUnit → Prog (TpuEff nD τ sig (Elt F) Λ₀ (thr d i).2) β} :
    iprop(Transfers.MayWaits (thr d i) (default : HIx 1) O ∗ FlO d i sm X R b r ∗ Ow (F := F) d i O W)
      ⊢ iprop((iprop((oLoc d i ↦[oSet r]{fullShare} G X R) ∗ (pLoc d i ↦[pSet b]{fullShare} plaF X R r) ∗ semVal ((thr d i), .dma sm) 0 ∗ Ow (F := F) d i O W) -∗ wp frame (wpE (defs₀ (F := F)) 𝒱₀ (thr d i) none) Set.univ (k ⟨⟩) Φ)
        -∗ wp frame (wpE (defs₀ (F := F)) 𝒱₀ (thr d i) none) Set.univ (.op (.waitDma2 sm (oPlane off' inb') (oRow off inb) hsrc hdst) k) Φ) := by
  iintro ⟨Hmw, HF, ⟨%W', %hW', HO⟩⟩ Hk
  ihave Hm := (Transfers.MayWaits.elim (SemLoc.dma sm)) $$ Hmw
  iapply (Transfers.wp_waitLocalO countersEmb 𝒱₀ (thr d i) none (default : HIx 1) (show (oRow off inb).view.dmaCredit = CRo from rfl) (O := O) (W := W')) $$ [HF HO Hm]
  · isplitl [HF]; · iexact HF
    isplitl [HO]; · iexact HO
    iexact Hm
  iintro ⟨⟨HI, HR⟩, Hs, HO⟩
  iapply Hk
  isplitl [HI]; · iexact HI
  isplitl [HR]; · iexact HR
  isplitl [Hs]; · iexact Hs
  iexists (insert (SemLoc.dma sm, (default : HIx 1)) W')
  isplitr [HO]
  · ipureintro
    intro p hp
    rcases Finset.mem_insert.mp hp with rfl | hp
    · exact Or.inr rfl
    · exact hW' p hp
  · iexact HO

end Steps

end Cert.Proof.Kern

end
-- ==== Proof.Parts.lean ====
module

public import proofs.«01_k».proof.Proof.Step

/-!
# Sixteen lanes of one row, and the whole row

One trip of an inner loop loads sixteen positions of the current index row and, for each of the twelve heads, reads
the sixteen scores out of the table row and stores them in the output plane. The two inner loops (one per slot)
differ in their slot only.
-/

@[expose] public section

noncomputable section

namespace Cert.Proof.Kern

open Cert.KernelIdeal Cert.KernelIdeal.Gen
open Idealize.ShloMosaic
open Idealize.ShloMosaic.SparseCore (S V T)
open Idealize.ShloMosaic.SparseCore.Cfg (HIx Pay tileRest ownBufs ownSems0 ownCells ownRefs mem_ownCells mem_ownRefs)
open Idealize.ShloMosaic.ValueIdx
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

local notation "𝕄" => MT nD τ sig (HIx 1) (Elt F) ℕ UU ℕ

section Parts

variable [FloatOps F] (d : Dev nD) (i : grid1.Coords) (X : S2048x384.Idx → Elt F .f32) (R : S2048x2048.Idx → BitVec 32)

/-- The sixteen lanes `v` are lane group `t` of row `r` of the relative positions. -/
def IsIdx (R : S2048x2048.Idx → BitVec 32) (r t : ℕ) (v : S16.Idx → BitVec 32) : Prop :=
  ∀ j : S16.Idx, ∀ hj : 16 * t + (j 0).val < 2048, v j = R (ix2 (Fin.ofNat 2048 r) ⟨16 * t + (j 0).val, hj⟩)
/-- The sixteen lanes `w` are lane group `t` of row `r` of head `h` of the result. -/
def IsVal (X : S2048x384.Idx → Elt F .f32) (R : S2048x2048.Idx → BitVec 32) (r t h : ℕ) (w : S16.Idx → Elt F .f32) : Prop :=
  ∀ j : S16.Idx, ∀ hj : 16 * t + (j 0).val < 2048, w j = Gv X R r h ⟨16 * t + (j 0).val, hj⟩

omit [FloatOps F] in
theorem isVal_gat {r0 c t h : ℕ} (hc : c < 64) {v : S16.Idx → BitVec 32} (hv : IsIdx R (r0 + c) t v) :
    IsVal X R (r0 + c) t h (gat (tabF X r0) c h v) := by
  intro j hj
  have e : (Fin.ofNat 64 c).val = c := Nat.mod_eq_of_lt hc
  show X (ix2 (Fin.ofNat 2048 (r0 + (Fin.ofNat 64 c).val)) (Fin.ofNat 384 (32 * h + (v j).toNat))) = _
  rw [e, hv j hj]; rfl

/-- The table rows, and output plane `b` filled up to lane group `t`, head `h`, of row `base i + c`. -/
abbrev Hold (c b t h : ℕ) : sProp 𝕄 :=
  iprop((tLoc d i ↦{fullShare} tabF X (base i)) ∗ ∃ f : S2x12x2048.Idx → Elt F .f32, ⌜Done b t h (Gv X R (base i + c)) f⌝ ∗ (pLoc d i ↦[pSet b]{fullShare} f))

theorem chk_of_lt {v : IVec S16 32} (h : ∀ j, (v j).toNat < 32) : ∀ (a : Fin 1) (x : S16.Idx), ((![v] : Fin 1 → IVec S16 32) a x).toNat < S32.size a := by
  intro a x
  match a with
  | ⟨0, _⟩ => exact h x

/-- Lane group `t` of row `r` of the relative positions is below 32 if all of them are. -/
theorem IsIdx.lt {r t : ℕ} {v : S16.Idx → BitVec 32} (hv : IsIdx R r t v) (ht : t < 128) (hR : ∀ x, (R x).toNat < 32) (j : S16.Idx) : (v j).toNat < 32 := by
  have h16 : (j 0).val < 16 := (j 0).isLt
  rw [hv j (by omega)]; exact hR _

/-! ## Slot 0 -/

set_option maxHeartbeats 4000000 in
theorem part1_spec (t : Fin k1_t1_loop.trips) (u : Fin k1_t2_loop.trips) {c : ℕ} (hcc : c = 2 * t.val) (hR : ∀ x, (R x).toNat < 32) (c0 c1 : BitVec 32)
    {Φ : (Σ' (_ : BitVec 32) (v : Vec F S16 .i32) (_ : k1_chk1 v) (_ : Vec F S16 .f32), BitVec 32) → sProp 𝕄} :
    iprop(Hold d i X R c 0 u.val 0 ∗ (iLoc d i ↦[iSet 0]{fullShare} rowF R (base i + c)))
      ⊢ iprop((∀ a v hw w z, ⌜IsIdx R (base i + c) u.val v⌝ -∗ ⌜IsVal X R (base i + c) u.val 3 w⌝ -∗ Hold d i X R c 0 u.val 3
            -∗ (iLoc d i ↦[iSet 0]{fullShare} rowF R (base i + c)) -∗ Φ ⟨a, v, hw, w, z⟩)
        -∗ wp frame (wpE (defs₀ (F := F)) 𝒱₀ (thr d i) none) Set.univ (k1_part1 i xV (Memref.isWhole_whole _) rV (Memref.isWhole_whole _) oV (Memref.isWhole_whole _) sT (Memref.isWhole_whole _) sI (Memref.isWhole_whole _) sO (Memref.isWhole_whole _) cc1_scratch3 cc1_scratch4 cc1_scratch5 cc1_scratch6 cc1_scoped0 t c0 c1 u) Φ) := by
  have ht32 : t.val < 32 := t.isLt.trans_eq t1_trips
  have hc : c < 64 := by omega
  have hu : u.val < 128 := u.isLt.trans_eq t2_trips
  rw [k1_part1_eq_skeleton]; unfold k1_part1_skel
  simp only [Prog.lift, Prog.bind_op, Prog.bind_ret, Prog.pure_eq_ret, Prog.bind_assoc]
  iintro ⟨⟨HT, HP⟩, HI⟩ Hk
  iapply (step_idx d i (off5_eq u) hu) $$ HI
  iintro %ld %hv HI
  generalize hvv : shapeCast S16 ld shapeCasts_S1x16_S16 = v at hv
  replace hv : IsIdx R (base i + c) u.val v := hv
  have hlt := hv.lt R hu hR
  have hchk : k1_chk1 v := ⟨chk_of_lt hlt, chk_of_lt hlt, chk_of_lt hlt, chk_of_lt hlt, chk_of_lt hlt, chk_of_lt hlt, chk_of_lt hlt, chk_of_lt hlt, chk_of_lt hlt, chk_of_lt hlt, chk_of_lt hlt, chk_of_lt hlt⟩
  rw [wp_assume_of 𝒱₀ (thr d i) none Set.univ hchk]
  iapply (step_gather d i (r := c) (hcc ▸ off6_eq t) hc (show 0 < 12 by decide) v) $$ HT
  iintro HT
  icases HP with ⟨%f0, %hD0, HP⟩
  iapply (step_dead d i (off7_eq u)) $$ HP
  iintro %_ HP
  iapply (step_store d i (off7_eq u) (show 0 < 2 by decide) (show 0 < 12 by decide) hu (g := Gv X R (base i + c)) (isVal_gat X R (h := 0) hc hv)) $$ [HP]
  · iexists f0; isplitr [HP]; · ipureintro; exact hD0
    iexact HP
  iintro HP
  iapply (step_gather d i (r := c) (hcc ▸ off8_eq t) hc (show 1 < 12 by decide) v) $$ HT
  iintro HT
  icases HP with ⟨%f1, %hD1, HP⟩
  iapply (step_dead d i (off9_eq u)) $$ HP
  iintro %_ HP
  iapply (step_store d i (off9_eq u) (show 0 < 2 by decide) (show 1 < 12 by decide) hu (g := Gv X R (base i + c)) (isVal_gat X R (h := 1) hc hv)) $$ [HP]
  · iexists f1; isplitr [HP]; · ipureintro; exact hD1
    iexact HP
  iintro HP
  iapply (step_gather d i (r := c) (hcc ▸ off10_eq t) hc (show 2 < 12 by decide) v) $$ HT
  iintro HT
  icases HP with ⟨%f2, %hD2, HP⟩
  iapply (step_dead d i (off11_eq u)) $$ HP
  iintro %_ HP
  iapply (step_store d i (off11_eq u) (show 0 < 2 by decide) (show 2 < 12 by decide) hu (g := Gv X R (base i + c)) (isVal_gat X R (h := 2) hc hv)) $$ [HP]
  · iexists f2; isplitr [HP]; · ipureintro; exact hD2
    iexact HP
  iintro HP
  iapply (step_gather d i (r := c) (hcc ▸ off12_eq t) hc (show 3 < 12 by decide) v) $$ HT
  iintro HT
  rw [wp_ret]; imodintro
  iapply Hk $$ [] [] [HT HP] [HI]
  · ipureintro; exact hv
  · ipureintro; exact (isVal_gat X R (h := 3) hc hv)
  · isplitl [HT]; · iexact HT
    iexact HP
  · iexact HI

set_option maxHeartbeats 4000000 in
theorem part2_spec (t : Fin k1_t1_loop.trips) (u : Fin k1_t2_loop.trips) {c : ℕ} (hcc : c = 2 * t.val) (a : BitVec 32) (v : Vec F S16 .i32) (hw : k1_chk1 v) (w : Vec F S16 .f32) (z : BitVec 32)
    (hv : IsIdx R (base i + c) u.val v) (hwv : IsVal X R (base i + c) u.val 3 w)
    {Φ : (Σ' (_ : Vec F S16 .f32) (_ : BitVec 32), BitVec 32) → sProp 𝕄} :
    Hold d i X R c 0 u.val 3
      ⊢ iprop((∀ w y z, ⌜IsVal X R (base i + c) u.val 7 w⌝ -∗ Hold d i X R c 0 u.val 7 -∗ Φ ⟨w, y, z⟩)
        -∗ wp frame (wpE (defs₀ (F := F)) 𝒱₀ (thr d i) none) Set.univ (k1_part2 i xV (Memref.isWhole_whole _) rV (Memref.isWhole_whole _) oV (Memref.isWhole_whole _) sT (Memref.isWhole_whole _) sI (Memref.isWhole_whole _) sO (Memref.isWhole_whole _) cc1_scratch3 cc1_scratch4 cc1_scratch5 cc1_scratch6 cc1_scoped0 t u a v hw w z) Φ) := by
  have ht32 : t.val < 32 := t.isLt.trans_eq t1_trips
  have hc : c < 64 := by omega
  have hu : u.val < 128 := u.isLt.trans_eq t2_trips
  rw [k1_part2_eq_skeleton]; unfold k1_part2_skel
  simp only [Prog.lift, Prog.bind_op, Prog.bind_ret, Prog.pure_eq_ret, Prog.bind_assoc]
  iintro ⟨HT, HP⟩ Hk
  icases HP with ⟨%f3, %hD3, HP⟩
  iapply (step_dead d i (off13_eq u)) $$ HP
  iintro %_ HP
  iapply (step_store d i (off13_eq u) (show 0 < 2 by decide) (show 3 < 12 by decide) hu (g := Gv X R (base i + c)) hwv) $$ [HP]
  · iexists f3; isplitr [HP]; · ipureintro; exact hD3
    iexact HP
  iintro HP
  iapply (step_gather d i (r := c) (hcc ▸ off14_eq t) hc (show 4 < 12 by decide) v) $$ HT
  iintro HT
  icases HP with ⟨%f4, %hD4, HP⟩
  iapply (step_dead d i (off15_eq u)) $$ HP
  iintro %_ HP
  iapply (step_store d i (off15_eq u) (show 0 < 2 by decide) (show 4 < 12 by decide) hu (g := Gv X R (base i + c)) (isVal_gat X R (h := 4) hc hv)) $$ [HP]
  · iexists f4; isplitr [HP]; · ipureintro; exact hD4
    iexact HP
  iintro HP
  iapply (step_gather d i (r := c) (hcc ▸ off16_eq t) hc (show 5 < 12 by decide) v) $$ HT
  iintro HT
  icases HP with ⟨%f5, %hD5, HP⟩
  iapply (step_dead d i (off17_eq u)) $$ HP
  iintro %_ HP
  iapply (step_store d i (off17_eq u) (show 0 < 2 by decide) (show 5 < 12 by decide) hu (g := Gv X R (base i + c)) (isVal_gat X R (h := 5) hc hv)) $$ [HP]
  · iexists f5; isplitr [HP]; · ipureintro; exact hD5
    iexact HP
  iintro HP
  iapply (step_gather d i (r := c) (hcc ▸ off18_eq t) hc (show 6 < 12 by decide) v) $$ HT
  iintro HT
  icases HP with ⟨%f6, %hD6, HP⟩
  iapply (step_dead d i (off19_eq u)) $$ HP
  iintro %_ HP
  iapply (step_store d i (off19_eq u) (show 0 < 2 by decide) (show 6 < 12 by decide) hu (g := Gv X R (base i + c)) (isVal_gat X R (h := 6) hc hv)) $$ [HP]
  · iexists f6; isplitr [HP]; · ipureintro; exact hD6
    iexact HP
  iintro HP
  iapply (step_gather d i (r := c) (hcc ▸ off20_eq t) hc (show 7 < 12 by decide) v) $$ HT
  iintro HT
  rw [wp_ret]; imodintro
  iapply Hk $$ [] [HT HP]
  · ipureintro; exact (isVal_gat X R (h := 7) hc hv)
  · isplitl [HT]; · iexact HT
    iexact HP

set_option maxHeartbeats 4000000 in
theorem part3_spec (t : Fin k1_t1_loop.trips) (u : Fin k1_t2_loop.trips) {c : ℕ} (hcc : c = 2 * t.val) (a : BitVec 32) (v : Vec F S16 .i32) (hw : k1_chk1 v) (w : Vec F S16 .f32) (y z : BitVec 32)
    (hv : IsIdx R (base i + c) u.val v) (hwv : IsVal X R (base i + c) u.val 7 w) {Φ : Vec F S16 .f32 → sProp 𝕄} :
    Hold d i X R c 0 u.val 7
      ⊢ iprop((∀ w, ⌜IsVal X R (base i + c) u.val 11 w⌝ -∗ Hold d i X R c 0 u.val 11 -∗ Φ w)
        -∗ wp frame (wpE (defs₀ (F := F)) 𝒱₀ (thr d i) none) Set.univ (k1_part3 i xV (Memref.isWhole_whole _) rV (Memref.isWhole_whole _) oV (Memref.isWhole_whole _) sT (Memref.isWhole_whole _) sI (Memref.isWhole_whole _) sO (Memref.isWhole_whole _) cc1_scratch3 cc1_scratch4 cc1_scratch5 cc1_scratch6 cc1_scoped0 t u a v hw w y z) Φ) := by
  have ht32 : t.val < 32 := t.isLt.trans_eq t1_trips
  have hc : c < 64 := by omega
  have hu : u.val < 128 := u.isLt.trans_eq t2_trips
  rw [k1_part3_eq_skeleton]; unfold k1_part3_skel
  simp only [Prog.lift, Prog.bind_op, Prog.bind_ret, Prog.pure_eq_ret, Prog.bind_assoc]
  iintro ⟨HT, HP⟩ Hk
  icases HP with ⟨%f7, %hD7, HP⟩
  iapply (step_dead d i (off21_eq u)) $$ HP
  iintro %_ HP
  iapply (step_store d i (off21_eq u) (show 0 < 2 by decide) (show 7 < 12 by decide) hu (g := Gv X R (base i + c)) hwv) $$ [HP]
  · iexists f7; isplitr [HP]; · ipureintro; exact hD7
    iexact HP
  iintro HP
  iapply (step_gather d i (r := c) (hcc ▸ off22_eq t) hc (show 8 < 12 by decide) v) $$ HT
  iintro HT
  icases HP with ⟨%f8, %hD8, HP⟩
  iapply (step_dead d i (off23_eq u)) $$ HP
  iintro %_ HP
  iapply (step_store d i (off23_eq u) (show 0 < 2 by decide) (show 8 < 12 by decide) hu (g := Gv X R (base i + c)) (isVal_gat X R (h := 8) hc hv)) $$ [HP]
  · iexists f8; isplitr [HP]; · ipureintro; exact hD8
    iexact HP
  iintro HP
  iapply (step_gather d i (r := c) (hcc ▸ off24_eq t) hc (show 9 < 12 by decide) v) $$ HT
  iintro HT
  icases HP with ⟨%f9, %hD9, HP⟩
  iapply (step_dead d i (off25_eq u)) $$ HP
  iintro %_ HP
  iapply (step_store d i (off25_eq u) (show 0 < 2 by decide) (show 9 < 12 by decide) hu (g := Gv X R (base i + c)) (isVal_gat X R (h := 9) hc hv)) $$ [HP]
  · iexists f9; isplitr [HP]; · ipureintro; exact hD9
    iexact HP
  iintro HP
  iapply (step_gather d i (r := c) (hcc ▸ off26_eq t) hc (show 10 < 12 by decide) v) $$ HT
  iintro HT
  icases HP with ⟨%f10, %hD10, HP⟩
  iapply (step_dead d i (off27_eq u)) $$ HP
  iintro %_ HP
  iapply (step_store d i (off27_eq u) (show 0 < 2 by decide) (show 10 < 12 by decide) hu (g := Gv X R (base i + c)) (isVal_gat X R (h := 10) hc hv)) $$ [HP]
  · iexists f10; isplitr [HP]; · ipureintro; exact hD10
    iexact HP
  iintro HP
  iapply (step_gather d i (r := c) (hcc ▸ off28_eq t) hc (show 11 < 12 by decide) v) $$ HT
  iintro HT
  icases HP with ⟨%f11, %hD11, HP⟩
  iapply (step_dead d i (off29_eq u)) $$ HP
  iintro %_ HP
  rw [wp_ret]; imodintro
  iapply Hk $$ [] [HT HP]
  · ipureintro; exact (isVal_gat X R (h := 11) hc hv)
  · isplitl [HT]; · iexact HT
    iexists f11; isplitr [HP]; · ipureintro; exact hD11
    iexact HP

/-! ## Slot 1 -/

set_option maxHeartbeats 4000000 in
theorem part4_spec (t : Fin k1_t1_loop.trips) (u : Fin k1_t3_loop.trips) {c : ℕ} (hcc : c = 2 * t.val + 1) (hR : ∀ x, (R x).toNat < 32) (c0 c1 : BitVec 32)
    {Φ : (Σ' (_ : BitVec 32) (v : Vec F S16 .i32) (_ : k1_chk2 v) (_ : Vec F S16 .f32), BitVec 32) → sProp 𝕄} :
    iprop(Hold d i X R c 1 u.val 0 ∗ (iLoc d i ↦[iSet 1]{fullShare} rowF R (base i + c)))
      ⊢ iprop((∀ a v hw w z, ⌜IsIdx R (base i + c) u.val v⌝ -∗ ⌜IsVal X R (base i + c) u.val 3 w⌝ -∗ Hold d i X R c 1 u.val 3
            -∗ (iLoc d i ↦[iSet 1]{fullShare} rowF R (base i + c)) -∗ Φ ⟨a, v, hw, w, z⟩)
        -∗ wp frame (wpE (defs₀ (F := F)) 𝒱₀ (thr d i) none) Set.univ (k1_part4 i xV (Memref.isWhole_whole _) rV (Memref.isWhole_whole _) oV (Memref.isWhole_whole _) sT (Memref.isWhole_whole _) sI (Memref.isWhole_whole _) sO (Memref.isWhole_whole _) cc1_scratch3 cc1_scratch4 cc1_scratch5 cc1_scratch6 cc1_scoped0 t c0 c1 u) Φ) := by
  have ht32 : t.val < 32 := t.isLt.trans_eq t1_trips
  have hc : c < 64 := by omega
  have hu : u.val < 128 := u.isLt.trans_eq t3_trips
  rw [k1_part4_eq_skeleton]; unfold k1_part4_skel
  simp only [Prog.lift, Prog.bind_op, Prog.bind_ret, Prog.pure_eq_ret, Prog.bind_assoc]
  iintro ⟨⟨HT, HP⟩, HI⟩ Hk
  iapply (step_idx d i (off33_eq u) hu) $$ HI
  iintro %ld %hv HI
  generalize hvv : shapeCast S16 ld shapeCasts_S1x16_S16 = v at hv
  replace hv : IsIdx R (base i + c) u.val v := hv
  have hlt := hv.lt R hu hR
  have hchk : k1_chk2 v := ⟨chk_of_lt hlt, chk_of_lt hlt, chk_of_lt hlt, chk_of_lt hlt, chk_of_lt hlt, chk_of_lt hlt, chk_of_lt hlt, chk_of_lt hlt, chk_of_lt hlt, chk_of_lt hlt, chk_of_lt hlt, chk_of_lt hlt⟩
  rw [wp_assume_of 𝒱₀ (thr d i) none Set.univ hchk]
  iapply (step_gather d i (r := c) (hcc ▸ off34_eq t) hc (show 0 < 12 by decide) v) $$ HT
  iintro HT
  icases HP with ⟨%f0, %hD0, HP⟩
  iapply (step_dead d i (off35_eq u)) $$ HP
  iintro %_ HP
  iapply (step_store d i (off35_eq u) (show 1 < 2 by decide) (show 0 < 12 by decide) hu (g := Gv X R (base i + c)) (isVal_gat X R (h := 0) hc hv)) $$ [HP]
  · iexists f0; isplitr [HP]; · ipureintro; exact hD0
    iexact HP
  iintro HP
  iapply (step_gather d i (r := c) (hcc ▸ off36_eq t) hc (show 1 < 12 by decide) v) $$ HT
  iintro HT
  icases HP with ⟨%f1, %hD1, HP⟩
  iapply (step_dead d i (off37_eq u)) $$ HP
  iintro %_ HP
  iapply (step_store d i (off37_eq u) (show 1 < 2 by decide) (show 1 < 12 by decide) hu (g := Gv X R (base i + c)) (isVal_gat X R (h := 1) hc hv)) $$ [HP]
  · iexists f1; isplitr [HP]; · ipureintro; exact hD1
    iexact HP
  iintro HP
  iapply (step_gather d i (r := c) (hcc ▸ off38_eq t) hc (show 2 < 12 by decide) v) $$ HT
  iintro HT
  icases HP with ⟨%f2, %hD2, HP⟩
  iapply (step_dead d i (off39_eq u)) $$ HP
  iintro %_ HP
  iapply (step_store d i (off39_eq u) (show 1 < 2 by decide) (show 2 < 12 by decide) hu (g := Gv X R (base i + c)) (isVal_gat X R (h := 2) hc hv)) $$ [HP]
  · iexists f2; isplitr [HP]; · ipureintro; exact hD2
    iexact HP
  iintro HP
  iapply (step_gather d i (r := c) (hcc ▸ off40_eq t) hc (show 3 < 12 by decide) v) $$ HT
  iintro HT
  rw [wp_ret]; imodintro
  iapply Hk $$ [] [] [HT HP] [HI]
  · ipureintro; exact hv
  · ipureintro; exact (isVal_gat X R (h := 3) hc hv)
  · isplitl [HT]; · iexact HT
    iexact HP
  · iexact HI

set_option maxHeartbeats 4000000 in
theorem part5_spec (t : Fin k1_t1_loop.trips) (u : Fin k1_t3_loop.trips) {c : ℕ} (hcc : c = 2 * t.val + 1) (a : BitVec 32) (v : Vec F S16 .i32) (hw : k1_chk2 v) (w : Vec F S16 .f32) (z : BitVec 32)
    (hv : IsIdx R (base i + c) u.val v) (hwv : IsVal X R (base i + c) u.val 3 w)
    {Φ : (Σ' (_ : Vec F S16 .f32) (_ : BitVec 32), BitVec 32) → sProp 𝕄} :
    Hold d i X R c 1 u.val 3
      ⊢ iprop((∀ w y z, ⌜IsVal X R (base i + c) u.val 7 w⌝ -∗ Hold d i X R c 1 u.val 7 -∗ Φ ⟨w, y, z⟩)
        -∗ wp frame (wpE (defs₀ (F := F)) 𝒱₀ (thr d i) none) Set.univ (k1_part5 i xV (Memref.isWhole_whole _) rV (Memref.isWhole_whole _) oV (Memref.isWhole_whole _) sT (Memref.isWhole_whole _) sI (Memref.isWhole_whole _) sO (Memref.isWhole_whole _) cc1_scratch3 cc1_scratch4 cc1_scratch5 cc1_scratch6 cc1_scoped0 t u a v hw w z) Φ) := by
  have ht32 : t.val < 32 := t.isLt.trans_eq t1_trips
  have hc : c < 64 := by omega
  have hu : u.val < 128 := u.isLt.trans_eq t3_trips
  rw [k1_part5_eq_skeleton]; unfold k1_part5_skel
  simp only [Prog.lift, Prog.bind_op, Prog.bind_ret, Prog.pure_eq_ret, Prog.bind_assoc]
  iintro ⟨HT, HP⟩ Hk
  icases HP with ⟨%f3, %hD3, HP⟩
  iapply (step_dead d i (off41_eq u)) $$ HP
  iintro %_ HP
  iapply (step_store d i (off41_eq u) (show 1 < 2 by decide) (show 3 < 12 by decide) hu (g := Gv X R (base i + c)) hwv) $$ [HP]
  · iexists f3; isplitr [HP]; · ipureintro; exact hD3
    iexact HP
  iintro HP
  iapply (step_gather d i (r := c) (hcc ▸ off42_eq t) hc (show 4 < 12 by decide) v) $$ HT
  iintro HT
  icases HP with ⟨%f4, %hD4, HP⟩
  iapply (step_dead d i (off43_eq u)) $$ HP
  iintro %_ HP
  iapply (step_store d i (off43_eq u) (show 1 < 2 by decide) (show 4 < 12 by decide) hu (g := Gv X R (base i + c)) (isVal_gat X R (h := 4) hc hv)) $$ [HP]
  · iexists f4; isplitr [HP]; · ipureintro; exact hD4
    iexact HP
  iintro HP
  iapply (step_gather d i (r := c) (hcc ▸ off44_eq t) hc (show 5 < 12 by decide) v) $$ HT
  iintro HT
  icases HP with ⟨%f5, %hD5, HP⟩
  iapply (step_dead d i (off45_eq u)) $$ HP
  iintro %_ HP
  iapply (step_store d i (off45_eq u) (show 1 < 2 by decide) (show 5 < 12 by decide) hu (g := Gv X R (base i + c)) (isVal_gat X R (h := 5) hc hv)) $$ [HP]
  · iexists f5; isplitr [HP]; · ipureintro; exact hD5
    iexact HP
  iintro HP
  iapply (step_gather d i (r := c) (hcc ▸ off46_eq t) hc (show 6 < 12 by decide) v) $$ HT
  iintro HT
  icases HP with ⟨%f6, %hD6, HP⟩
  iapply (step_dead d i (off47_eq u)) $$ HP
  iintro %_ HP
  iapply (step_store d i (off47_eq u) (show 1 < 2 by decide) (show 6 < 12 by decide) hu (g := Gv X R (base i + c)) (isVal_gat X R (h := 6) hc hv)) $$ [HP]
  · iexists f6; isplitr [HP]; · ipureintro; exact hD6
    iexact HP
  iintro HP
  iapply (step_gather d i (r := c) (hcc ▸ off48_eq t) hc (show 7 < 12 by decide) v) $$ HT
  iintro HT
  rw [wp_ret]; imodintro
  iapply Hk $$ [] [HT HP]
  · ipureintro; exact (isVal_gat X R (h := 7) hc hv)
  · isplitl [HT]; · iexact HT
    iexact HP

set_option maxHeartbeats 4000000 in
theorem part6_spec (t : Fin k1_t1_loop.trips) (u : Fin k1_t3_loop.trips) {c : ℕ} (hcc : c = 2 * t.val + 1) (a : BitVec 32) (v : Vec F S16 .i32) (hw : k1_chk2 v) (w : Vec F S16 .f32) (y z : BitVec 32)
    (hv : IsIdx R (base i + c) u.val v) (hwv : IsVal X R (base i + c) u.val 7 w) {Φ : Vec F S16 .f32 → sProp 𝕄} :
    Hold d i X R c 1 u.val 7
      ⊢ iprop((∀ w, ⌜IsVal X R (base i + c) u.val 11 w⌝ -∗ Hold d i X R c 1 u.val 11 -∗ Φ w)
        -∗ wp frame (wpE (defs₀ (F := F)) 𝒱₀ (thr d i) none) Set.univ (k1_part6 i xV (Memref.isWhole_whole _) rV (Memref.isWhole_whole _) oV (Memref.isWhole_whole _) sT (Memref.isWhole_whole _) sI (Memref.isWhole_whole _) sO (Memref.isWhole_whole _) cc1_scratch3 cc1_scratch4 cc1_scratch5 cc1_scratch6 cc1_scoped0 t u a v hw w y z) Φ) := by
  have ht32 : t.val < 32 := t.isLt.trans_eq t1_trips
  have hc : c < 64 := by omega
  have hu : u.val < 128 := u.isLt.trans_eq t3_trips
  rw [k1_part6_eq_skeleton]; unfold k1_part6_skel
  simp only [Prog.lift, Prog.bind_op, Prog.bind_ret, Prog.pure_eq_ret, Prog.bind_assoc]
  iintro ⟨HT, HP⟩ Hk
  icases HP with ⟨%f7, %hD7, HP⟩
  iapply (step_dead d i (off49_eq u)) $$ HP
  iintro %_ HP
  iapply (step_store d i (off49_eq u) (show 1 < 2 by decide) (show 7 < 12 by decide) hu (g := Gv X R (base i + c)) hwv) $$ [HP]
  · iexists f7; isplitr [HP]; · ipureintro; exact hD7
    iexact HP
  iintro HP
  iapply (step_gather d i (r := c) (hcc ▸ off50_eq t) hc (show 8 < 12 by decide) v) $$ HT
  iintro HT
  icases HP with ⟨%f8, %hD8, HP⟩
  iapply (step_dead d i (off51_eq u)) $$ HP
  iintro %_ HP
  iapply (step_store d i (off51_eq u) (show 1 < 2 by decide) (show 8 < 12 by decide) hu (g := Gv X R (base i + c)) (isVal_gat X R (h := 8) hc hv)) $$ [HP]
  · iexists f8; isplitr [HP]; · ipureintro; exact hD8
    iexact HP
  iintro HP
  iapply (step_gather d i (r := c) (hcc ▸ off52_eq t) hc (show 9 < 12 by decide) v) $$ HT
  iintro HT
  icases HP with ⟨%f9, %hD9, HP⟩
  iapply (step_dead d i (off53_eq u)) $$ HP
  iintro %_ HP
  iapply (step_store d i (off53_eq u) (show 1 < 2 by decide) (show 9 < 12 by decide) hu (g := Gv X R (base i + c)) (isVal_gat X R (h := 9) hc hv)) $$ [HP]
  · iexists f9; isplitr [HP]; · ipureintro; exact hD9
    iexact HP
  iintro HP
  iapply (step_gather d i (r := c) (hcc ▸ off54_eq t) hc (show 10 < 12 by decide) v) $$ HT
  iintro HT
  icases HP with ⟨%f10, %hD10, HP⟩
  iapply (step_dead d i (off55_eq u)) $$ HP
  iintro %_ HP
  iapply (step_store d i (off55_eq u) (show 1 < 2 by decide) (show 10 < 12 by decide) hu (g := Gv X R (base i + c)) (isVal_gat X R (h := 10) hc hv)) $$ [HP]
  · iexists f10; isplitr [HP]; · ipureintro; exact hD10
    iexact HP
  iintro HP
  iapply (step_gather d i (r := c) (hcc ▸ off56_eq t) hc (show 11 < 12 by decide) v) $$ HT
  iintro HT
  icases HP with ⟨%f11, %hD11, HP⟩
  iapply (step_dead d i (off57_eq u)) $$ HP
  iintro %_ HP
  rw [wp_ret]; imodintro
  iapply Hk $$ [] [HT HP]
  · ipureintro; exact (isVal_gat X R (h := 11) hc hv)
  · isplitl [HT]; · iexact HT
    iexists f11; isplitr [HP]; · ipureintro; exact hD11
    iexact HP

end Parts

end Cert.Proof.Kern

end
-- ==== Proof.Loops.lean ====
module

public import proofs.«01_k».proof.Proof.Parts

/-!
# The inner loops

Over its 128 trips an inner loop fills its output plane with one row of the result.
-/

@[expose] public section

noncomputable section

namespace Cert.Proof.Kern

open Cert.KernelIdeal Cert.KernelIdeal.Gen
open Idealize.ShloMosaic
open Idealize.ShloMosaic.SparseCore (S V T)
open Idealize.ShloMosaic.SparseCore.Cfg (HIx Pay tileRest ownBufs ownSems0 ownCells ownRefs mem_ownCells mem_ownRefs)
open Idealize.ShloMosaic.ValueIdx
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

local notation "𝕄" => MT nD τ sig (HIx 1) (Elt F) ℕ UU ℕ

section Loops

variable [FloatOps F] (d : Dev nD) (i : grid1.Coords) (X : S2048x384.Idx → Elt F .f32) (R : S2048x2048.Idx → BitVec 32)

omit [FloatOps F] in
/-- After the last lane group the plane holds the row. -/
theorem done_full {b r : ℕ} {f : S2x12x2048.Idx → Elt F .f32} (h : Done b 128 0 (Gv X R r) f) : ∀ x ∈ pSet b, f x = plaF X R r x := by
  intro x hx
  have hx2 : (x 2).val < 2048 := (x 2).isLt
  exact h x (mem_pSet.mp hx) (Or.inl (by omega))

/-! ## Slot 0 -/

set_option maxHeartbeats 4000000 in
theorem trip0_spec (v2 c0 c1 : BitVec 32) (t : Fin k1_t1_loop.trips) {c : ℕ} (hcc : c = 2 * t.val) (hR : ∀ x, (R x).toNat < 32)
    (u : Fin k1_t2_loop.trips) (acc : Unit) :
    iprop(Hold d i X R c 0 u.val 0 ∗ (iLoc d i ↦[iSet 0]{fullShare} rowF R (base i + c)))
      ⊢ wp frame (wpE (defs₀ (F := F)) 𝒱₀ (thr d i) none) Set.univ (k1_t2_body i xV (Memref.isWhole_whole _) rV (Memref.isWhole_whole _) oV (Memref.isWhole_whole _) sT (Memref.isWhole_whole _) sI (Memref.isWhole_whole _) sO (Memref.isWhole_whole _) cc1_scratch3 cc1_scratch4 cc1_scratch5 cc1_scratch6 cc1_scoped0 v2 c0 c1 t u acc)
          fun _ => iprop(Hold d i X R c 0 (u.val + 1) 0 ∗ (iLoc d i ↦[iSet 0]{fullShare} rowF R (base i + c))) := by
  have hu : u.val < 128 := u.isLt.trans_eq t2_trips
  unfold k1_t2_body
  rw [wp_bind]
  iintro H
  iapply (part1_spec d i X R t u hcc hR 0#32 1#32) $$ H
  iintro %a %v %hw %w %z %hv %hwv H HI
  dsimp only
  rw [wp_bind]
  iapply (part2_spec d i X R t u hcc a v hw w z hv hwv) $$ H
  iintro %w' %y %z' %hwv' H
  dsimp only
  rw [wp_bind]
  iapply (part3_spec d i X R t u hcc a v hw w' y z' hv hwv') $$ H
  iintro %w'' %hwv'' ⟨HT, HP⟩
  simp only [Prog.lift, Prog.bind_op, Prog.bind_ret, Prog.pure_eq_ret, Prog.bind_assoc]
  iapply (step_store d i (off29_eq u) (show 0 < 2 by decide) (show 11 < 12 by decide) hu (g := Gv X R (base i + c)) hwv'') $$ HP
  iintro ⟨%f, %hD, HP⟩
  rw [wp_ret]; imodintro
  isplitr [HI]
  · isplitl [HT]; · iexact HT
    iexists f
    isplitr [HP]; · ipureintro; exact hD.next
    iexact HP
  · iexact HI

set_option maxHeartbeats 4000000 in
/-- The inner loop fills plane 0 with row `base i + c`. -/
theorem loop0_spec (v2 c0 c1 : BitVec 32) (t : Fin k1_t1_loop.trips) {c : ℕ} (hcc : c = 2 * t.val) (hR : ∀ x, (R x).toNat < 32)
    {Φ : PUnit → sProp 𝕄} :
    iprop((tLoc d i ↦{fullShare} tabF X (base i)) ∗ (∃ f, pLoc d i ↦[pSet 0]{fullShare} f) ∗ (iLoc d i ↦[iSet 0]{fullShare} rowF R (base i + c)))
      ⊢ iprop((iprop((tLoc d i ↦{fullShare} tabF X (base i)) ∗ (pLoc d i ↦[pSet 0]{fullShare} plaF X R (base i + c)) ∗ (iLoc d i ↦[iSet 0]{fullShare} rowF R (base i + c))) -∗ Φ ⟨⟩)
        -∗ wp frame (wpE (defs₀ (F := F)) 𝒱₀ (thr d i) none) Set.univ (Scf.Loop.for k1_t2_loop k1_t2_ok ⟨⟩ (k1_t2_body i xV (Memref.isWhole_whole _) rV (Memref.isWhole_whole _) oV (Memref.isWhole_whole _) sT (Memref.isWhole_whole _) sI (Memref.isWhole_whole _) sO (Memref.isWhole_whole _) cc1_scratch3 cc1_scratch4 cc1_scratch5 cc1_scratch6 cc1_scoped0 v2 c0 c1 t)) Φ) := by
  iintro ⟨HT, ⟨%f, HP⟩, HI⟩ Hk
  iapply (Scf.wp_for frame (wpE (defs₀ (F := F)) 𝒱₀ (thr d i) none) Set.univ k1_t2_loop.lb k1_t2_loop.ub k1_t2_loop.st k1_t2_ok ⟨⟩
    (k1_t2_body i xV (Memref.isWhole_whole _) rV (Memref.isWhole_whole _) oV (Memref.isWhole_whole _) sT (Memref.isWhole_whole _) sI (Memref.isWhole_whole _) sO (Memref.isWhole_whole _) cc1_scratch3 cc1_scratch4 cc1_scratch5 cc1_scratch6 cc1_scoped0 v2 c0 c1 t)
    (fun u _ => iprop(Hold d i X R c 0 u 0 ∗ (iLoc d i ↦[iSet 0]{fullShare} rowF R (base i + c))))
    (fun u acc => trip0_spec d i X R v2 c0 c1 t hcc hR u acc))
  isplitl [HT HP HI]
  · isplitr [HI]
    · isplitl [HT]; · iexact HT
      iexists f
      isplitr [HP]; · ipureintro; exact Done.zero _ _ _
      iexact HP
    · iexact HI
  iintro %acc ⟨⟨HT, ⟨%f', %hD, HP⟩⟩, HI⟩
  iapply Hk
  isplitl [HT]; · iexact HT
  isplitr [HI]
  · iapply (show (pLoc d i ↦[pSet 0]{fullShare} f' : sProp 𝕄) ⊢ (pLoc d i ↦[pSet 0]{fullShare} plaF X R (base i + c)) from by
      rw [pointsTo_congr (done_full X R (b := 0) (r := base i + c) (f := f') (t2_trips ▸ hD))]) $$ HP
  · iexact HI

/-! ## Slot 1 -/

set_option maxHeartbeats 4000000 in
theorem trip1_spec (t : Fin k1_t1_loop.trips) {c : ℕ} (hcc : c = 2 * t.val + 1) (hR : ∀ x, (R x).toNat < 32)
    (u : Fin k1_t3_loop.trips) (acc : Unit) :
    iprop(Hold d i X R c 1 u.val 0 ∗ (iLoc d i ↦[iSet 1]{fullShare} rowF R (base i + c)))
      ⊢ wp frame (wpE (defs₀ (F := F)) 𝒱₀ (thr d i) none) Set.univ (k1_t3_body i xV (Memref.isWhole_whole _) rV (Memref.isWhole_whole _) oV (Memref.isWhole_whole _) sT (Memref.isWhole_whole _) sI (Memref.isWhole_whole _) sO (Memref.isWhole_whole _) cc1_scratch3 cc1_scratch4 cc1_scratch5 cc1_scratch6 cc1_scoped0 t u acc)
          fun _ => iprop(Hold d i X R c 1 (u.val + 1) 0 ∗ (iLoc d i ↦[iSet 1]{fullShare} rowF R (base i + c))) := by
  have hu : u.val < 128 := u.isLt.trans_eq t3_trips
  unfold k1_t3_body
  rw [wp_bind]
  iintro H
  iapply (part4_spec d i X R t u hcc hR 0#32 1#32) $$ H
  iintro %a %v %hw %w %z %hv %hwv H HI
  dsimp only
  rw [wp_bind]
  iapply (part5_spec d i X R t u hcc a v hw w z hv hwv) $$ H
  iintro %w' %y %z' %hwv' H
  dsimp only
  rw [wp_bind]
  iapply (part6_spec d i X R t u hcc a v hw w' y z' hv hwv') $$ H
  iintro %w'' %hwv'' ⟨HT, HP⟩
  simp only [Prog.lift, Prog.bind_op, Prog.bind_ret, Prog.pure_eq_ret, Prog.bind_assoc]
  iapply (step_store d i (off57_eq u) (show 1 < 2 by decide) (show 11 < 12 by decide) hu (g := Gv X R (base i + c)) hwv'') $$ HP
  iintro ⟨%f, %hD, HP⟩
  rw [wp_ret]; imodintro
  isplitr [HI]
  · isplitl [HT]; · iexact HT
    iexists f
    isplitr [HP]; · ipureintro; exact hD.next
    iexact HP
  · iexact HI

set_option maxHeartbeats 4000000 in
/-- The inner loop fills plane 1 with row `base i + c`. -/
theorem loop1_spec (t : Fin k1_t1_loop.trips) {c : ℕ} (hcc : c = 2 * t.val + 1) (hR : ∀ x, (R x).toNat < 32)
    {Φ : PUnit → sProp 𝕄} :
    iprop((tLoc d i ↦{fullShare} tabF X (base i)) ∗ (∃ f, pLoc d i ↦[pSet 1]{fullShare} f) ∗ (iLoc d i ↦[iSet 1]{fullShare} rowF R (base i + c)))
      ⊢ iprop((iprop((tLoc d i ↦{fullShare} tabF X (base i)) ∗ (pLoc d i ↦[pSet 1]{fullShare} plaF X R (base i + c)) ∗ (iLoc d i ↦[iSet 1]{fullShare} rowF R (base i + c))) -∗ Φ ⟨⟩)
        -∗ wp frame (wpE (defs₀ (F := F)) 𝒱₀ (thr d i) none) Set.univ (Scf.Loop.for k1_t3_loop k1_t3_ok ⟨⟩ (k1_t3_body i xV (Memref.isWhole_whole _) rV (Memref.isWhole_whole _) oV (Memref.isWhole_whole _) sT (Memref.isWhole_whole _) sI (Memref.isWhole_whole _) sO (Memref.isWhole_whole _) cc1_scratch3 cc1_scratch4 cc1_scratch5 cc1_scratch6 cc1_scoped0 t)) Φ) := by
  iintro ⟨HT, ⟨%f, HP⟩, HI⟩ Hk
  iapply (Scf.wp_for frame (wpE (defs₀ (F := F)) 𝒱₀ (thr d i) none) Set.univ k1_t3_loop.lb k1_t3_loop.ub k1_t3_loop.st k1_t3_ok ⟨⟩
    (k1_t3_body i xV (Memref.isWhole_whole _) rV (Memref.isWhole_whole _) oV (Memref.isWhole_whole _) sT (Memref.isWhole_whole _) sI (Memref.isWhole_whole _) sO (Memref.isWhole_whole _) cc1_scratch3 cc1_scratch4 cc1_scratch5 cc1_scratch6 cc1_scoped0 t)
    (fun u _ => iprop(Hold d i X R c 1 u 0 ∗ (iLoc d i ↦[iSet 1]{fullShare} rowF R (base i + c))))
    (fun u acc => trip1_spec d i X R t hcc hR u acc))
  isplitl [HT HP HI]
  · isplitr [HI]
    · isplitl [HT]; · iexact HT
      iexists f
      isplitr [HP]; · ipureintro; exact Done.zero _ _ _
      iexact HP
    · iexact HI
  iintro %acc ⟨⟨HT, ⟨%f', %hD, HP⟩⟩, HI⟩
  iapply Hk
  isplitl [HT]; · iexact HT
  isplitr [HI]
  · iapply (show (pLoc d i ↦[pSet 1]{fullShare} f' : sProp 𝕄) ⊢ (pLoc d i ↦[pSet 1]{fullShare} plaF X R (base i + c)) from by
      rw [pointsTo_congr (done_full X R (b := 1) (r := base i + c) (f := f') (t3_trips ▸ hD))]) $$ HP
  · iexact HI

end Loops

end Cert.Proof.Kern

end
-- ==== Proof.Rows.lean ====
module

public import proofs.«01_k».proof.Proof.Loops

/-!
# One row of the outer loop

Row `c` of a subcore's 64 rows: the wait for its index row, the wait for the write-out two rows before, the inner loop,
the write-out, and the fetch of the index row two rows after. Even rows use slot 0, odd rows slot 1.
-/

@[expose] public section

noncomputable section

namespace Cert.Proof.Kern

open Cert.KernelIdeal Cert.KernelIdeal.Gen
open Idealize.ShloMosaic
open Idealize.ShloMosaic.SparseCore (S V T)
open Idealize.ShloMosaic.SparseCore.Cfg (HIx Pay tileRest ownBufs ownSems0 ownCells ownRefs mem_ownCells mem_ownRefs)
open Idealize.ShloMosaic.ValueIdx
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

local notation "𝕄" => MT nD τ sig (HIx 1) (Elt F) ℕ UU ℕ

/-! ## The rows of the result, one more and one less -/

theorem oRange_snoc {lo r : ℕ} (h : lo ≤ r) : oRange lo r ∪ oSet r = oRange lo (r + 1) := by
  ext x; rw [Finset.mem_union, mem_oRange, mem_oSet, mem_oRange]; omega

theorem oRange_cons {r hi : ℕ} (h : r < hi) : oSet r ∪ oRange (r + 1) hi = oRange r hi := by
  ext x; rw [Finset.mem_union, mem_oSet, mem_oRange, mem_oRange]; omega

theorem oRange_self (r : ℕ) : oRange r r = ∅ := by
  ext x; rw [mem_oRange]; constructor
  · intro h; omega
  · intro h; exact absurd h (Finset.notMem_empty _)

theorem disjoint_snoc (lo r : ℕ) : Disjoint (oRange lo r) (oSet r) := by
  rw [Finset.disjoint_left]; intro x h h'; rw [mem_oRange] at h; rw [mem_oSet] at h'; omega

theorem disjoint_cons (r hi : ℕ) : Disjoint (oSet r) (oRange (r + 1) hi) := by
  rw [Finset.disjoint_left]; intro x h h'; rw [mem_oRange] at h'; rw [mem_oSet] at h; omega

section Halves

variable [FloatOps F] (d : Dev nD) (i : grid1.Coords) (X : S2048x384.Idx → Elt F .f32) (R : S2048x2048.Idx → BitVec 32)

/-- The index slot that row `c` uses: the row's fetch is pending, or, past the last row, the slot is free. -/
def SlotI (sm : DmaSem sig) (q : PosShare TreeShare) (b c : ℕ) : sProp 𝕄 :=
  if c < 64 then iprop(FlI (F := F) d i sm q R b (base i + c) ∗ (rLoc d i ↦[Finset.univ \ rSet (base i + c)]{q} R))
  else iprop((∃ f, iLoc d i ↦[iSet b]{fullShare} f) ∗ semVal ((thr d i), .dma sm) 0 ∗ (rLoc d i ↦{q} R))

/-- The output plane that row `c` uses: the write-out of the row two before is pending, or, before the first rows, the
    plane is free. -/
def SlotO (sm : DmaSem sig) (b c : ℕ) : sProp 𝕄 :=
  if 2 ≤ c then FlO d i sm X R b (base i + (c - 2))
  else iprop((∃ f, pLoc d i ↦[pSet b]{fullShare} f) ∗ semVal ((thr d i), .dma sm) 0)

/-- Before row `c`: the table rows, the rows written out, the rows to come, and what the subcore owes. -/
def Half (o0 : S12x2048x2048.Idx → Elt F .f32) (O : CellTallies nD τ sig (HIx 1)) (W : Waits sig (HIx 1)) (c : ℕ) : sProp 𝕄 :=
  iprop((tLoc d i ↦{fullShare} tabF X (base i)) ∗ (oLoc d i ↦[oRange (base i) (base i + (c - 2))]{fullShare} G X R)
    ∗ (oLoc d i ↦[oRange (base i + c) (base i + 64)]{fullShare} o0) ∗ Ow (F := F) d i O W)

theorem SlotI_pos {sm : DmaSem sig} {q : PosShare TreeShare} {b c : ℕ} (h : c < 64) :
    SlotI (F := F) d i R sm q b c = iprop(FlI (F := F) d i sm q R b (base i + c) ∗ (rLoc d i ↦[Finset.univ \ rSet (base i + c)]{q} R)) := if_pos h
theorem SlotI_neg {sm : DmaSem sig} {q : PosShare TreeShare} {b c : ℕ} (h : ¬ c < 64) :
    SlotI (F := F) d i R sm q b c = iprop((∃ f, iLoc d i ↦[iSet b]{fullShare} f) ∗ semVal ((thr d i), .dma sm) 0 ∗ (rLoc d i ↦{q} R)) := if_neg h
theorem SlotO_pos {sm : DmaSem sig} {b c : ℕ} (h : 2 ≤ c) : SlotO d i X R sm b c = FlO d i sm X R b (base i + (c - 2)) := if_pos h
theorem SlotO_neg {sm : DmaSem sig} {b c : ℕ} (h : ¬ 2 ≤ c) :
    SlotO d i X R sm b c = iprop((∃ f, pLoc d i ↦[pSet b]{fullShare} f) ∗ semVal ((thr d i), .dma sm) 0) := if_neg h

/-- The fetch of row `base i + c` into slot `b`. -/
theorem fetch {off inb off' inb'} {b c : ℕ} (h : off = ![b, 0]) (hb : b < 2) (h' : off' = ![base i + c, 0]) (hc : c < 64) {sm : DmaSem sig}
    {q : PosShare TreeShare} {hsrc hdst hsem} {β : Type} {Φ : β → sProp 𝕄} {k : PUnit → Prog (TpuEff nD τ sig (Elt F) Λ₀ (thr d i).2) β} :
    iprop((∃ f, iLoc d i ↦[iSet b]{fullShare} f) ∗ (rLoc d i ↦{q} R) ∗ semVal ((thr d i), .dma sm) 0)
      ⊢ iprop((SlotI (F := F) d i R sm q b c -∗ wp frame (wpE (defs₀ (F := F)) 𝒱₀ (thr d i) none) Set.univ (k ⟨⟩) Φ)
        -∗ wp frame (wpE (defs₀ (F := F)) 𝒱₀ (thr d i) none) Set.univ (.op (.enqueueDma (rRow off' inb') (.here (iRow off inb)) (.dma sm) hsrc hdst hsem) k) Φ) := by
  have hbase := base_lt i
  iintro ⟨⟨%f, HI⟩, HR, Hs⟩ Hk
  ihave HRs := (pointsTo_split_subset (q := q) (f := R) (S := Finset.univ) (Finset.subset_univ (rSet (base i + c)))).1 $$ HR
  icases HRs with ⟨HR, HRr⟩
  iapply (enq_idx d i h hb h' (by omega) (f := f) (q := q) (R := R)) $$ [HR HI Hs]
  · isplitl [HR]; · iexact HR
    isplitl [HI]; · iexact HI
    iexact Hs
  iintro HF
  iapply Hk
  rw [SlotI_pos d i R hc]
  isplitl [HF]; · iexact HF
  iexact HRr

/-- The fetch two rows ahead, if there is such a row. -/
theorem cond_fetch {C : Prop} [Decidable C] {b c : ℕ} (hC : C ↔ c + 2 < 64) {off inb off'} {inb' : C → ∀ a, off' a + S1x2048.size a ≤ S2048x2048.size a}
    (h : off = ![b, 0]) (hb : b < 2) (h' : C → off' = ![base i + (c + 2), 0]) {sm : DmaSem sig} {q : PosShare TreeShare}
    {hsrc : ∀ h : C, (rRow off' (inb' h)).view.WordExact} {hdst} {hsem : C → DmaTarget.Typed (nD := nD) .hbm (SemLoc.dma sm) (.here (p := (thr d i).2) (iRow off inb))}
    {β : Type} {Φ : β → sProp 𝕄} {k : Prog (TpuEff nD τ sig (Elt F) Λ₀ (thr d i).2) β} :
    iprop((∃ f, iLoc d i ↦[iSet b]{fullShare} f) ∗ (rLoc d i ↦{q} R) ∗ semVal ((thr d i), .dma sm) 0)
      ⊢ iprop((SlotI (F := F) d i R sm q b (c + 2) -∗ wp frame (wpE (defs₀ (F := F)) 𝒱₀ (thr d i) none) Set.univ k Φ)
        -∗ wp frame (wpE (defs₀ (F := F)) 𝒱₀ (thr d i) none) Set.univ (if hc : C then .op (.enqueueDma (rRow off' (inb' hc)) (.here (iRow off inb)) (.dma sm) (hsrc hc) hdst (hsem hc)) (fun _ => k) else k) Φ) := by
  by_cases hc : C
  · rw [dif_pos hc]
    exact fetch (F := F) d i R h hb (h' hc) (hC.mp hc) (k := fun _ => k)
  · rw [dif_neg hc]
    iintro ⟨HI, HR, Hs⟩ Hk
    iapply Hk
    rw [SlotI_neg d i R (mt hC.mpr hc)]
    isplitl [HI]; · iexact HI
    isplitl [Hs]; · iexact Hs
    iexact HR

/-- The wait for row `base i + c`. -/
theorem arrive {off inb off' inb'} {b c : ℕ} (hc : c < 64) {sm : DmaSem sig} {q : PosShare TreeShare} {hsrc hdst}
    {O : CellTallies nD τ sig (HIx 1)} {W : Waits sig (HIx 1)} {β : Type} {Φ : β → sProp 𝕄}
    {k : PUnit → Prog (TpuEff nD τ sig (Elt F) Λ₀ (thr d i).2) β} :
    iprop(Transfers.MayWaits (thr d i) (default : HIx 1) O ∗ SlotI (F := F) d i R sm q b c ∗ Ow (F := F) d i O W)
      ⊢ iprop((iprop((iLoc d i ↦[iSet b]{fullShare} rowF R (base i + c)) ∗ (rLoc d i ↦{q} R) ∗ semVal ((thr d i), .dma sm) 0 ∗ Ow (F := F) d i O W) -∗ wp frame (wpE (defs₀ (F := F)) 𝒱₀ (thr d i) none) Set.univ (k ⟨⟩) Φ)
        -∗ wp frame (wpE (defs₀ (F := F)) 𝒱₀ (thr d i) none) Set.univ (.op (.waitDma2 sm (rRow off' inb') (iRow off inb) hsrc hdst) k) Φ) := by
  rw [SlotI_pos d i R hc]
  iintro ⟨Hmw, ⟨HF, HRr⟩, HO⟩ Hk
  iapply (wait_idx d i (b := b) (r := base i + c) (q := q) (R := R) (O := O) (W := W)) $$ [Hmw HF HO]
  · isplitl [Hmw]; · iexact Hmw
    isplitl [HF]; · iexact HF
    iexact HO
  iintro ⟨HI, HR, Hs, HO⟩
  iapply Hk
  isplitl [HI]; · iexact HI
  isplitl [HR HRr]
  · iapply (pointsTo_split_subset (q := q) (f := R) (S := Finset.univ) (Finset.subset_univ (rSet (base i + c)))).2
    isplitl [HR]; · iexact HR
    iexact HRr
  isplitl [Hs]; · iexact Hs
  iexact HO

/-- The wait for the write-out of row `base i + c`. -/
theorem leave {off inb off' inb'} {b c : ℕ} {sm : DmaSem sig} {hsrc hdst}
    {O : CellTallies nD τ sig (HIx 1)} {W : Waits sig (HIx 1)} {β : Type} {Φ : β → sProp 𝕄}
    {k : PUnit → Prog (TpuEff nD τ sig (Elt F) Λ₀ (thr d i).2) β} :
    iprop(Transfers.MayWaits (thr d i) (default : HIx 1) O ∗ FlO d i sm X R b (base i + c)
        ∗ (oLoc d i ↦[oRange (base i) (base i + c)]{fullShare} G X R) ∗ Ow (F := F) d i O W)
      ⊢ iprop((iprop((∃ f, pLoc d i ↦[pSet b]{fullShare} f) ∗ semVal ((thr d i), .dma sm) 0
          ∗ (oLoc d i ↦[oRange (base i) (base i + (c + 1))]{fullShare} G X R) ∗ Ow (F := F) d i O W) -∗ wp frame (wpE (defs₀ (F := F)) 𝒱₀ (thr d i) none) Set.univ (k ⟨⟩) Φ)
        -∗ wp frame (wpE (defs₀ (F := F)) 𝒱₀ (thr d i) none) Set.univ (.op (.waitDma2 sm (oPlane off' inb') (oRow off inb) hsrc hdst) k) Φ) := by
  iintro ⟨Hmw, HF, HD, HO⟩ Hk
  iapply (wait_out d i (b := b) (r := base i + c) (X := X) (R := R) (O := O) (W := W)) $$ [Hmw HF HO]
  · isplitl [Hmw]; · iexact Hmw
    isplitl [HF]; · iexact HF
    iexact HO
  iintro ⟨HN, HP, Hs, HO⟩
  iapply Hk
  isplitl [HP]; · iexists _; iexact HP
  isplitl [Hs]; · iexact Hs
  isplitr [HO]
  · rw [← Nat.add_assoc, ← oRange_snoc (show base i ≤ base i + c by omega)]
    iapply (pointsTo_union (disjoint_snoc _ _)).2
    isplitl [HD]; · iexact HD
    iexact HN
  iexact HO

/-- The wait for the write-out two rows before, if there is such a row. -/
theorem cond_leave {C : Prop} [Decidable C] {b c : ℕ} (hC : C ↔ 2 ≤ c) {off} {inb : C → ∀ a, off a + S12x1x2048.size a ≤ S12x2048x2048.size a} {off' inb'}
    {sm : DmaSem sig} {hsrc : C → (oPlane off' inb').view.WordExact} {hdst : ∀ h : C, (oRow off (inb h)).view.WordExact}
    {O : CellTallies nD τ sig (HIx 1)} {W : Waits sig (HIx 1)} {β : Type} {Φ : β → sProp 𝕄}
    {k : Prog (TpuEff nD τ sig (Elt F) Λ₀ (thr d i).2) β} :
    iprop(Transfers.MayWaits (thr d i) (default : HIx 1) O ∗ SlotO d i X R sm b c
        ∗ (oLoc d i ↦[oRange (base i) (base i + (c - 2))]{fullShare} G X R) ∗ Ow (F := F) d i O W)
      ⊢ iprop((iprop((∃ f, pLoc d i ↦[pSet b]{fullShare} f) ∗ semVal ((thr d i), .dma sm) 0
          ∗ (oLoc d i ↦[oRange (base i) (base i + (c + 1 - 2))]{fullShare} G X R) ∗ Ow (F := F) d i O W) -∗ wp frame (wpE (defs₀ (F := F)) 𝒱₀ (thr d i) none) Set.univ k Φ)
        -∗ wp frame (wpE (defs₀ (F := F)) 𝒱₀ (thr d i) none) Set.univ (if hc : C then .op (.waitDma2 sm (oPlane off' inb') (oRow off (inb hc)) (hsrc hc) (hdst hc)) (fun _ => k) else k) Φ) := by
  by_cases hc : C
  · have h2 := hC.mp hc
    rw [dif_pos hc, SlotO_pos d i X R h2, show c + 1 - 2 = c - 2 + 1 by omega]
    exact leave d i X R (k := fun _ => k)
  · have h2 := mt hC.mpr hc
    rw [dif_neg hc, SlotO_neg d i X R h2, show c + 1 - 2 = c - 2 by omega]
    iintro ⟨-, ⟨HP, Hs⟩, HD, HO⟩ Hk
    iapply Hk
    isplitl [HP]; · iexact HP
    isplitl [Hs]; · iexact Hs
    isplitl [HD]; · iexact HD
    iexact HO

/-- The write-out of row `base i + c`. -/
theorem write_out {off inb off' inb'} {b c : ℕ} (h : off = ![0, base i + c, 0]) (hc : c < 64) (h' : off' = ![b, 0, 0]) (hb : b < 2) {sm : DmaSem sig}
    {o0 : S12x2048x2048.Idx → Elt F .f32} {hsrc hdst hsem} {β : Type} {Φ : β → sProp 𝕄}
    {k : PUnit → Prog (TpuEff nD τ sig (Elt F) Λ₀ (thr d i).2) β} :
    iprop((pLoc d i ↦[pSet b]{fullShare} plaF X R (base i + c)) ∗ (oLoc d i ↦[oRange (base i + c) (base i + 64)]{fullShare} o0) ∗ semVal ((thr d i), .dma sm) 0)
      ⊢ iprop((iprop(SlotO d i X R sm b (c + 2) ∗ (oLoc d i ↦[oRange (base i + (c + 1)) (base i + 64)]{fullShare} o0)) -∗ wp frame (wpE (defs₀ (F := F)) 𝒱₀ (thr d i) none) Set.univ (k ⟨⟩) Φ)
        -∗ wp frame (wpE (defs₀ (F := F)) 𝒱₀ (thr d i) none) Set.univ (.op (.enqueueDma (oPlane off' inb') (.here (oRow off inb)) (.dma sm) hsrc hdst hsem) k) Φ) := by
  have hbase := base_lt i
  rw [← oRange_cons (show base i + c < base i + 64 by omega)]
  iintro ⟨HP, HT, Hs⟩ Hk
  ihave HTs := (pointsTo_union (disjoint_cons _ _)).1 $$ HT
  icases HTs with ⟨HN, HT⟩
  iapply (enq_out d i h (by omega) h' hb (f := o0) (X := X) (R := R)) $$ [HP HN Hs]
  · isplitl [HP]; · iexact HP
    isplitl [HN]; · iexact HN
    iexact Hs
  iintro HF
  iapply Hk
  rw [SlotO_pos d i X R (show 2 ≤ c + 2 by omega), Nat.add_sub_cancel]
  isplitl [HF]; · iexact HF
  iexact HT

variable (o0 : S12x2048x2048.Idx → Elt F .f32) (O : CellTallies nD τ sig (HIx 1)) (W : Waits sig (HIx 1))

set_option maxHeartbeats 4000000 in
/-- An even row. -/
theorem even_spec (v2 c0 c1 : BitVec 32) (t : Fin k1_t1_loop.trips) {c : ℕ} (hcc : c = 2 * t.val) (hR : ∀ x, (R x).toNat < 32) {q : PosShare TreeShare}
    {Φ : (Σ' (_ : BitVec 32), BitVec 32) → sProp 𝕄} :
    iprop(Transfers.MayWaits (thr d i) (default : HIx 1) O ∗ SlotI (F := F) d i R cc1_scratch3.sem q 0 c ∗ SlotO d i X R cc1_scratch5.sem 0 c ∗ Half d i X R o0 O W c)
      ⊢ iprop((∀ z, iprop(SlotI (F := F) d i R cc1_scratch3.sem q 0 (c + 2) ∗ SlotO d i X R cc1_scratch5.sem 0 (c + 2) ∗ Half d i X R o0 O W (c + 1)) -∗ Φ z)
        -∗ wp frame (wpE (defs₀ (F := F)) 𝒱₀ (thr d i) none) Set.univ (k1_part7 i xV (Memref.isWhole_whole _) rV (Memref.isWhole_whole _) oV (Memref.isWhole_whole _) sT (Memref.isWhole_whole _) sI (Memref.isWhole_whole _) sO (Memref.isWhole_whole _) cc1_scratch3 cc1_scratch4 cc1_scratch5 cc1_scratch6 cc1_scoped0 v2 c0 c1 t) Φ) := by
  have ht32 : t.val < 32 := t.isLt.trans_eq t1_trips
  have hc : c < 64 := by omega
  rw [k1_part7_eq_skeleton]; unfold k1_part7_skel Half
  simp only [Prog.lift, Prog.bind_op, Prog.bind_ret, Prog.pure_eq_ret, Prog.bind_assoc]
  iintro ⟨#Hmw, HSI, HSO, HT, HD, HE, HO⟩ Hk
  iapply (arrive d i R (b := 0) (c := c) hc (q := q) (O := O) (W := W)) $$ [Hmw HSI HO]
  · isplitr; · iexact Hmw
    isplitl [HSI]; · iexact HSI
    iexact HO
  iintro ⟨HI, HR, Hs, HO⟩
  iapply (cond_leave d i X R (b := 0) (c := c) ((cond1_iff t).trans (by omega)) (O := O) (W := W)) $$ [Hmw HSO HD HO]
  · isplitr; · iexact Hmw
    isplitl [HSO]; · iexact HSO
    isplitl [HD]; · iexact HD
    iexact HO
  iintro ⟨HP, Hs', HD, HO⟩
  rw [wp_bind]
  iapply (loop0_spec d i X R v2 c0 c1 t hcc hR) $$ [HT HP HI]
  · isplitl [HT]; · iexact HT
    isplitl [HP]; · iexact HP
    iexact HI
  iintro ⟨HT, HP, HI⟩
  iapply (write_out d i X R (b := 0) (c := c) (hcc ▸ off30_eq0 i t) hc rfl (show 0 < 2 by decide)) $$ [HP HE Hs']
  · isplitl [HP]; · iexact HP
    isplitl [HE]; · iexact HE
    iexact Hs'
  iintro ⟨HSO, HE⟩
  iapply (cond_fetch d i R (b := 0) (c := c) ((cond2_iff t).trans (by omega)) rfl (show 0 < 2 by decide)
    (fun _ => (off31_eq i t).trans (by rw [show base i + (c + 2) = base i + 2 * (t.val + 1) by omega]))) $$ [HI HR Hs]
  · isplitl [HI]; · iexists _; iexact HI
    isplitl [HR]; · iexact HR
    iexact Hs
  iintro HSI
  rw [wp_ret]; imodintro
  iapply Hk
  isplitl [HSI]; · iexact HSI
  isplitl [HSO]; · iexact HSO
  isplitl [HT]; · iexact HT
  isplitl [HD]; · iexact HD
  isplitl [HE]; · iexact HE
  iexact HO

set_option maxHeartbeats 4000000 in
/-- One trip of the outer loop: an even row and the odd row after it. -/
theorem trip_spec (v2 : BitVec 32) (t : Fin k1_t1_loop.trips) (hR : ∀ x, (R x).toNat < 32) {q q' : PosShare TreeShare} (acc : Unit) :
    iprop(Transfers.MayWaits (thr d i) (default : HIx 1) O ∗ SlotI (F := F) d i R cc1_scratch3.sem q 0 (2 * t.val) ∗ SlotO d i X R cc1_scratch5.sem 0 (2 * t.val)
        ∗ SlotI (F := F) d i R cc1_scratch4.sem q' 1 (2 * t.val + 1) ∗ SlotO d i X R cc1_scratch6.sem 1 (2 * t.val + 1) ∗ Half d i X R o0 O W (2 * t.val))
      ⊢ wp frame (wpE (defs₀ (F := F)) 𝒱₀ (thr d i) none) Set.univ (k1_t1_body i xV (Memref.isWhole_whole _) rV (Memref.isWhole_whole _) oV (Memref.isWhole_whole _) sT (Memref.isWhole_whole _) sI (Memref.isWhole_whole _) sO (Memref.isWhole_whole _) cc1_scratch3 cc1_scratch4 cc1_scratch5 cc1_scratch6 cc1_scoped0 v2 t acc) fun _ =>
        iprop(Transfers.MayWaits (thr d i) (default : HIx 1) O ∗ SlotI (F := F) d i R cc1_scratch3.sem q 0 (2 * (t.val + 1)) ∗ SlotO d i X R cc1_scratch5.sem 0 (2 * (t.val + 1))
        ∗ SlotI (F := F) d i R cc1_scratch4.sem q' 1 (2 * (t.val + 1) + 1) ∗ SlotO d i X R cc1_scratch6.sem 1 (2 * (t.val + 1) + 1) ∗ Half d i X R o0 O W (2 * (t.val + 1))) := by
  have ht32 : t.val < 32 := t.isLt.trans_eq t1_trips
  unfold k1_t1_body
  rw [wp_bind]
  iintro ⟨#Hmw, HSI0, HSO0, HSI, HSO, HH⟩
  iapply (even_spec d i X R o0 O W v2 0#32 1#32 t rfl hR (q := q)) $$ [HSI0 HSO0 HH]
  · isplitr; · iexact Hmw
    isplitl [HSI0]; · iexact HSI0
    isplitl [HSO0]; · iexact HSO0
    iexact HH
  iintro %z ⟨HSI0, HSO0, HH⟩
  generalize hcc : 2 * t.val + 1 = c
  rw [show 2 * (t.val + 1) + 1 = c + 2 by omega, show 2 * (t.val + 1) = c + 1 by omega, show 2 * t.val + 2 = c + 1 by omega]
  replace hcc := hcc.symm
  have hc : c < 64 := by omega
  dsimp only
  simp only [Prog.lift, Prog.bind_op, Prog.bind_ret, Prog.pure_eq_ret, Prog.bind_assoc]
  unfold Half
  icases HH with ⟨HT, HD, HE, HO⟩
  iapply (arrive d i R (b := 1) (c := c) hc (q := q') (O := O) (W := W)) $$ [Hmw HSI HO]
  · isplitr; · iexact Hmw
    isplitl [HSI]; · iexact HSI
    iexact HO
  iintro ⟨HI, HR, Hs, HO⟩
  iapply (cond_leave d i X R (b := 1) (c := c) ((cond3_iff t).trans (by omega)) (O := O) (W := W)) $$ [Hmw HSO HD HO]
  · isplitr; · iexact Hmw
    isplitl [HSO]; · iexact HSO
    isplitl [HD]; · iexact HD
    iexact HO
  iintro ⟨HP, Hs', HD, HO⟩
  rw [wp_bind]
  iapply (loop1_spec d i X R t hcc hR) $$ [HT HP HI]
  · isplitl [HT]; · iexact HT
    isplitl [HP]; · iexact HP
    iexact HI
  iintro ⟨HT, HP, HI⟩
  iapply (write_out d i X R (b := 1) (c := c) (hcc ▸ off30_eq1 i t) hc rfl (show 1 < 2 by decide)) $$ [HP HE Hs']
  · isplitl [HP]; · iexact HP
    isplitl [HE]; · iexact HE
    iexact Hs'
  iintro ⟨HSO, HE⟩
  iapply (cond_fetch d i R (b := 1) (c := c) ((cond4_iff t).trans (by omega)) rfl (show 1 < 2 by decide)
    (fun _ => (off58_eq i t).trans (by rw [show base i + (c + 2) = base i + 2 * (t.val + 1) + 1 by omega]))) $$ [HI HR Hs]
  · isplitl [HI]; · iexists _; iexact HI
    isplitl [HR]; · iexact HR
    iexact Hs
  iintro HSI
  rw [wp_ret]; imodintro
  isplitr; · iexact Hmw
  isplitl [HSI0]; · iexact HSI0
  isplitl [HSO0]; · iexact HSO0
  isplitl [HSI]; · iexact HSI
  isplitl [HSO]; · iexact HSO
  isplitl [HT]; · iexact HT
  isplitl [HD]; · iexact HD
  isplitl [HE]; · iexact HE
  iexact HO

end Halves

end Cert.Proof.Kern

end
-- ==== Proof.Tile.lean ====
module

public import proofs.«01_k».proof.Proof.Rows

/-!
# The whole task of one vector subcore

The copy of the subcore's 64 table rows, the first two index rows, the outer loop over the 64 rows two by two, and the
last two waits.
-/

@[expose] public section

noncomputable section

namespace Cert.Proof.Kern

open Cert.KernelIdeal Cert.KernelIdeal.Gen
open Idealize.ShloMosaic
open Idealize.ShloMosaic.SparseCore (S V T)
open Idealize.ShloMosaic.SparseCore.Cfg (HIx Pay tileRest ownBufs ownSems0 ownCells ownRefs mem_ownCells mem_ownRefs)
open Idealize.ShloMosaic.ValueIdx
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

local notation "𝕄" => MT nD τ sig (HIx 1) (Elt F) ℕ UU ℕ

/-! ## Two slots are the whole -/

theorem iSet_union : iSet 0 ∪ iSet 1 = Finset.univ := by
  ext x; rw [Finset.mem_union, mem_iSet, mem_iSet]
  have : (x 0).val < 2 := (x 0).isLt
  exact ⟨fun _ => Finset.mem_univ _, fun _ => by omega⟩
theorem iSet_disjoint : Disjoint (iSet 0) (iSet 1) := by
  rw [Finset.disjoint_left]; intro x h h'; rw [mem_iSet] at h h'; omega
theorem pSet_union : pSet 0 ∪ pSet 1 = Finset.univ := by
  ext x; rw [Finset.mem_union, mem_pSet, mem_pSet]
  have : (x 0).val < 2 := (x 0).isLt
  exact ⟨fun _ => Finset.mem_univ _, fun _ => by omega⟩
theorem pSet_disjoint : Disjoint (pSet 0) (pSet 1) := by
  rw [Finset.disjoint_left]; intro x h h'; rw [mem_pSet] at h h'; omega

/-- Two disjoint parts of a buffer, each at some contents, are their union at some contents. -/
theorem join_parts {ℓ : Loc nD τ sig} {I J : Finset (Idx ℓ)} (h : Disjoint I J) :
    iprop((∃ f : Buf (Elt F) ℓ, ℓ ↦[I]{fullShare} f) ∗ (∃ f : Buf (Elt F) ℓ, ℓ ↦[J]{fullShare} f)) ⊢ (iprop(∃ f : Buf (Elt F) ℓ, ℓ ↦[I ∪ J]{fullShare} f) : sProp 𝕄) := by
  classical
  iintro ⟨⟨%f, HI⟩, ⟨%g, HJ⟩⟩
  iexists (fun x => if x ∈ I then f x else g x)
  iapply (pointsTo_union h).2
  isplitl [HI]
  · iapply (show (ℓ ↦[I]{fullShare} f : sProp 𝕄) ⊢ (ℓ ↦[I]{fullShare} (fun x => if x ∈ I then f x else g x)) from by
      rw [pointsTo_congr (fun x hx => (if_pos hx).symm : ∀ x ∈ I, f x = (fun x => if x ∈ I then f x else g x) x)]) $$ HI
  · iapply (show (ℓ ↦[J]{fullShare} g : sProp 𝕄) ⊢ (ℓ ↦[J]{fullShare} (fun x => if x ∈ I then f x else g x)) from by
      rw [pointsTo_congr (fun x hx => (if_neg (Finset.disjoint_right.mp h hx)).symm : ∀ x ∈ J, g x = (fun x => if x ∈ I then f x else g x) x)]) $$ HJ

section Tile

variable [FloatOps F] (d : Dev nD) (i : grid1.Coords) (X : S2048x384.Idx → Elt F .f32) (R : S2048x2048.Idx → BitVec 32)
variable (o0 : S12x2048x2048.Idx → Elt F .f32) (O : CellTallies nD τ sig (HIx 1)) (W : Waits sig (HIx 1))

omit [FloatOps F] in
theorem cell_ne {s s' : DmaSem sig} (h : s ≠ s') : ((thr d i, .dma s) : GSem nD τ sig) ≠ (thr d i, .dma s') := fun e =>
  h (SemLoc.dma.inj (Prod.ext_iff.mp e).2)

omit [FloatOps F] in
/-- The subcore's own counters: the five that the kernel uses, and the rest. -/
theorem ownSems0_thr :
    (ownSems0 (thr d i) : sProp 𝕄)
      = iprop(semVal ((thr d i, .dma cc1_scratch3.sem) : GSem nD τ sig) 0 ∗ semVal ((thr d i, .dma cc1_scratch4.sem) : GSem nD τ sig) 0 ∗ semVal ((thr d i, .dma cc1_scratch5.sem) : GSem nD τ sig) 0 ∗ semVal ((thr d i, .dma cc1_scratch6.sem) : GSem nD τ sig) 0 ∗ semVal ((thr d i, .dma cc1_scoped0.sem) : GSem nD τ sig) 0
          ∗ bigSep ((((((ownCells (thr d i)).erase ((thr d i, .dma cc1_scratch3.sem) : GSem nD τ sig)).erase ((thr d i, .dma cc1_scratch4.sem) : GSem nD τ sig)).erase ((thr d i, .dma cc1_scratch5.sem) : GSem nD τ sig)).erase ((thr d i, .dma cc1_scratch6.sem) : GSem nD τ sig)).erase ((thr d i, .dma cc1_scoped0.sem) : GSem nD τ sig)) fun g => semVal g 0) := by
  unfold SparseCore.Cfg.ownSems0
  rw [SparseCore.bigSep_erase' ((mem_ownCells (g := ((thr d i, .dma cc1_scratch3.sem) : GSem nD τ sig))).mpr ⟨rfl, by show (SemLoc.dma cc1_scratch3.sem : SemLoc sig).isScoped .scVector = true; decide⟩),
    SparseCore.bigSep_erase' (Finset.mem_erase.mpr ⟨cell_ne d i (by decide), (mem_ownCells (g := ((thr d i, .dma cc1_scratch4.sem) : GSem nD τ sig))).mpr ⟨rfl, by show (SemLoc.dma cc1_scratch4.sem : SemLoc sig).isScoped .scVector = true; decide⟩⟩),
    SparseCore.bigSep_erase' (Finset.mem_erase.mpr ⟨cell_ne d i (by decide), Finset.mem_erase.mpr ⟨cell_ne d i (by decide), (mem_ownCells (g := ((thr d i, .dma cc1_scratch5.sem) : GSem nD τ sig))).mpr ⟨rfl, by show (SemLoc.dma cc1_scratch5.sem : SemLoc sig).isScoped .scVector = true; decide⟩⟩⟩),
    SparseCore.bigSep_erase' (Finset.mem_erase.mpr ⟨cell_ne d i (by decide), Finset.mem_erase.mpr ⟨cell_ne d i (by decide), Finset.mem_erase.mpr ⟨cell_ne d i (by decide), (mem_ownCells (g := ((thr d i, .dma cc1_scratch6.sem) : GSem nD τ sig))).mpr ⟨rfl, by show (SemLoc.dma cc1_scratch6.sem : SemLoc sig).isScoped .scVector = true; decide⟩⟩⟩⟩),
    SparseCore.bigSep_erase' (Finset.mem_erase.mpr ⟨cell_ne d i (by decide), Finset.mem_erase.mpr ⟨cell_ne d i (by decide), Finset.mem_erase.mpr ⟨cell_ne d i (by decide), Finset.mem_erase.mpr ⟨cell_ne d i (by decide), (mem_ownCells (g := ((thr d i, .dma cc1_scoped0.sem) : GSem nD τ sig))).mpr ⟨rfl, by show (SemLoc.dma cc1_scoped0.sem : SemLoc sig).isScoped .scVector = true; decide⟩⟩⟩⟩⟩)]

omit [FloatOps F] in
/-- The subcore's own buffers: the three that the kernel uses, and the rest. -/
theorem ownBufs_thr :
    (ownBufs (thr d i) : sProp 𝕄)
      = iprop((∃ f, tLoc d i ↦{fullShare} f) ∗ (∃ f, iLoc d i ↦{fullShare} f) ∗ (∃ f, pLoc d i ↦{fullShare} f)
          ∗ bigSep ((((ownRefs (τ := τ) (.scVector (cV i) (jV i))).erase ((Proc.scVector (cV i) (jV i)).devRef cc1_scratch0)).erase ((Proc.scVector (cV i) (jV i)).devRef cc1_scratch1)).erase ((Proc.scVector (cV i) (jV i)).devRef cc1_scratch2)) fun b => iprop(∃ f, ((d, b) : Loc nD τ sig) ↦{fullShare} f)) := by
  unfold SparseCore.Cfg.ownBufs
  refine (SparseCore.bigSep_erase' (SparseCore.Cfg.mem_ownRefs_of_owner (p := Proc.scVector (cV i) (jV i)) (b := ((Proc.scVector (cV i) (jV i)).devRef cc1_scratch0)) rfl)).trans ?_
  rw [SparseCore.bigSep_erase' (Finset.mem_erase.mpr ⟨fun e => absurd (Proc.devRef_injective _ e) (show (cc1_scratch1 : Ref sig .scVector) ≠ cc1_scratch0 by decide), SparseCore.Cfg.mem_ownRefs_of_owner (p := Proc.scVector (cV i) (jV i)) (b := ((Proc.scVector (cV i) (jV i)).devRef cc1_scratch1)) rfl⟩),
    SparseCore.bigSep_erase' (Finset.mem_erase.mpr ⟨fun e => absurd (Proc.devRef_injective _ e) (show (cc1_scratch2 : Ref sig .scVector) ≠ cc1_scratch1 by decide), Finset.mem_erase.mpr ⟨fun e => absurd (Proc.devRef_injective _ e) (show (cc1_scratch2 : Ref sig .scVector) ≠ cc1_scratch0 by decide), SparseCore.Cfg.mem_ownRefs_of_owner (p := Proc.scVector (cV i) (jV i)) (b := ((Proc.scVector (cV i) (jV i)).devRef cc1_scratch2)) rfl⟩⟩)]

omit [FloatOps F] in
theorem share_halves (q : PosShare TreeShare) :
    (rLoc d i ↦{q} R : sProp 𝕄) ⊣⊢ iprop((rLoc d i ↦{q.left} R) ∗ (rLoc d i ↦{q.right} R)) :=
  pointsTo_share (PosShare.mem_left_op_right q)

/-- The table copy's credit. -/
abbrev CRt : ℕ := sT.view.dmaCredit

/-- The copy of 64 rows of the table, and its wait. -/
theorem copy_table {off inb} (h : off = ![base i, 0]) {q : PosShare TreeShare} {f : S64x384.Idx → Elt F .f32} {hsrc hdst hsem hsrc' hdst'}
    {β : Type} {Φ : β → sProp 𝕄} {k : PUnit → Prog (TpuEff nD τ sig (Elt F) Λ₀ (thr d i).2) β} :
    iprop(Transfers.MayWaits (thr d i) (default : HIx 1) O ∗ (xLoc d i ↦{q} X) ∗ (tLoc d i ↦{fullShare} f) ∗ semVal ((thr d i), .dma cc1_scoped0.sem) 0 ∗ Ow (F := F) d i O W)
      ⊢ iprop((iprop((xLoc d i ↦{q} X) ∗ (tLoc d i ↦{fullShare} tabF X (base i)) ∗ semVal ((thr d i), .dma cc1_scoped0.sem) 0 ∗ Ow (F := F) d i O W) -∗ wp frame (wpE (defs₀ (F := F)) 𝒱₀ (thr d i) none) Set.univ (k ⟨⟩) Φ)
        -∗ wp frame (wpE (defs₀ (F := F)) 𝒱₀ (thr d i) none) Set.univ (.op (.enqueueDma (tRows off inb) (.here sT) (.dma cc1_scoped0.sem) hsrc hdst hsem)
            fun _ => .op (.waitDma2 cc1_scoped0.sem (tRows off inb) sT hsrc' hdst') k) Φ) := by
  iintro ⟨Hmw, HX, HT, Hs, ⟨%W', %hW', HO⟩⟩ Hk
  ihave HXs := (pointsTo_split_subset (q := q) (f := X) (S := Finset.univ) (Finset.subset_univ (tRows off inb).view.set)).1 $$ HX
  icases HXs with ⟨HX, HXr⟩
  iapply (Transfers.wp_dmaLocal countersEmb 𝒱₀ (thr d i) none (default : HIx 1) CRt (show sT.view.amount (.dma cc1_scoped0.sem) = CRt from rfl)
    (View.amount_pos sT.view (.dma cc1_scoped0.sem) (show 0 < S64x384.numel by decide)) (Sd := Finset.univ) (Finset.subset_univ _)
    (src := tRows off inb) (dst := sT) (q := q) (fs := X) (fd := f)) $$ [HX HT Hs]
  · isplitl [HX]; · iexact HX
    isplitl [HT]; · iexact HT
    iexact Hs
  iintro HF
  ihave Hm := (Transfers.MayWaits.elim (SemLoc.dma cc1_scoped0.sem)) $$ Hmw
  iapply (Transfers.wp_waitLocalO countersEmb 𝒱₀ (thr d i) none (default : HIx 1) (show sT.view.dmaCredit = CRt from rfl) (O := O) (W := W')) $$ [HF HO Hm]
  · isplitl [HF]; · iexact HF
    isplitl [HO]; · iexact HO
    iexact Hm
  iintro ⟨⟨HT, HX⟩, Hs, HO⟩
  iapply Hk
  isplitl [HX HXr]
  · iapply (pointsTo_split_subset (q := q) (f := X) (S := Finset.univ) (Finset.subset_univ (tRows off inb).view.set)).2
    isplitl [HX]; · iexact HX
    iexact HXr
  isplitl [HT]
  · iapply (Entails.of_eq (congrArg (fun g => (tLoc d i ↦{fullShare} g : sProp 𝕄)) (write_sT h (base_lt i) f X))) $$ HT
  isplitl [Hs]; · iexact Hs
  iexists (insert (SemLoc.dma cc1_scoped0.sem, (default : HIx 1)) W')
  isplitr [HO]
  · ipureintro
    intro p hp
    rcases Finset.mem_insert.mp hp with rfl | hp
    · exact Or.inr rfl
    · exact hW' p hp
  · iexact HO

/-- Between two trips of the outer loop. -/
abbrev Inv (q q' : PosShare TreeShare) (t : ℕ) : sProp 𝕄 :=
  iprop(Transfers.MayWaits (thr d i) (default : HIx 1) O ∗ SlotI (F := F) d i R cc1_scratch3.sem q 0 (2 * t) ∗ SlotO d i X R cc1_scratch5.sem 0 (2 * t)
    ∗ SlotI (F := F) d i R cc1_scratch4.sem q' 1 (2 * t + 1) ∗ SlotO d i X R cc1_scratch6.sem 1 (2 * t + 1) ∗ Half d i X R o0 O W (2 * t))

set_option maxHeartbeats 4000000 in
/-- The task up to the end of the outer loop. -/
theorem part8_spec (hR : ∀ x, (R x).toNat < 32) {qx q q' : PosShare TreeShare} {Φ : BitVec 32 → sProp 𝕄} :
    iprop(Transfers.MayWaits (thr d i) (default : HIx 1) O ∗ (xLoc d i ↦{qx} X) ∗ (rLoc d i ↦{q} R) ∗ (rLoc d i ↦{q'} R)
        ∗ (oLoc d i ↦[oRange (base i) (base i + 64)]{fullShare} o0)
        ∗ (∃ f, tLoc d i ↦{fullShare} f) ∗ (∃ f, iLoc d i ↦{fullShare} f) ∗ (∃ f, pLoc d i ↦{fullShare} f)
        ∗ semVal ((thr d i), .dma cc1_scratch3.sem) 0 ∗ semVal ((thr d i), .dma cc1_scratch4.sem) 0 ∗ semVal ((thr d i), .dma cc1_scratch5.sem) 0 ∗ semVal ((thr d i), .dma cc1_scratch6.sem) 0 ∗ semVal ((thr d i), .dma cc1_scoped0.sem) 0 ∗ Ow (F := F) d i O W)
      ⊢ iprop((∀ z, iprop((xLoc d i ↦{qx} X) ∗ semVal ((thr d i), .dma cc1_scoped0.sem) 0 ∗ Inv d i X R o0 O W q q' 32) -∗ Φ z)
        -∗ wp frame (wpE (defs₀ (F := F)) 𝒱₀ (thr d i) none) Set.univ (k1_part8 i xV (Memref.isWhole_whole _) rV (Memref.isWhole_whole _) oV (Memref.isWhole_whole _) sT (Memref.isWhole_whole _) sI (Memref.isWhole_whole _) sO (Memref.isWhole_whole _) cc1_scratch3 cc1_scratch4 cc1_scratch5 cc1_scratch6 cc1_scoped0) Φ) := by
  rw [k1_part8_eq_skeleton]; unfold k1_part8_skel
  simp only [Prog.lift, Prog.bind_op, Prog.bind_ret, Prog.pure_eq_ret, Prog.bind_assoc]
  iintro ⟨#Hmw, HX, HR0, HR1, HE, ⟨%ft, HT⟩, ⟨%fi, HI⟩, ⟨%fp, HP⟩, Hs3, Hs4, Hs5, Hs6, Hs0, HO⟩ Hk
  iapply (copy_table d i X O W (off1_eq i) (q := qx) (f := ft)) $$ [HX HT Hs0 HO]
  · isplitr; · iexact Hmw
    isplitl [HX]; · iexact HX
    isplitl [HT]; · iexact HT
    isplitl [Hs0]; · iexact Hs0
    iexact HO
  iintro ⟨HX, HT, Hs0, HO⟩
  ihave HIs := (show (iLoc d i ↦{fullShare} fi : sProp 𝕄) ⊢ iprop((iLoc d i ↦[iSet 0]{fullShare} fi) ∗ (iLoc d i ↦[iSet 1]{fullShare} fi)) from
    (Entails.of_eq (by rw [iSet_union])).trans (pointsTo_union iSet_disjoint).1) $$ HI
  icases HIs with ⟨HI0, HI1⟩
  ihave HPs := (show (pLoc d i ↦{fullShare} fp : sProp 𝕄) ⊢ iprop((pLoc d i ↦[pSet 0]{fullShare} fp) ∗ (pLoc d i ↦[pSet 1]{fullShare} fp)) from
    (Entails.of_eq (by rw [pSet_union])).trans (pointsTo_union pSet_disjoint).1) $$ HP
  icases HPs with ⟨HP0, HP1⟩
  iapply (fetch d i R (b := 0) (c := 0) rfl (by decide) (off2_eq0 i) (by decide) (q := q)) $$ [HI0 HR0 Hs3]
  · isplitl [HI0]; · iexists _; iexact HI0
    isplitl [HR0]; · iexact HR0
    iexact Hs3
  iintro HSI0
  iapply (fetch d i R (b := 1) (c := 1) rfl (by decide) (off2_eq1 i) (by decide) (q := q')) $$ [HI1 HR1 Hs4]
  · isplitl [HI1]; · iexists _; iexact HI1
    isplitl [HR1]; · iexact HR1
    iexact Hs4
  iintro HSI1
  rw [wp_bind]
  iapply (Scf.wp_for frame (wpE (defs₀ (F := F)) 𝒱₀ (thr d i) none) Set.univ k1_t1_loop.lb k1_t1_loop.ub k1_t1_loop.st k1_t1_ok ⟨⟩
    (k1_t1_body i xV (Memref.isWhole_whole _) rV (Memref.isWhole_whole _) oV (Memref.isWhole_whole _) sT (Memref.isWhole_whole _) sI (Memref.isWhole_whole _) sO (Memref.isWhole_whole _) cc1_scratch3 cc1_scratch4 cc1_scratch5 cc1_scratch6 cc1_scoped0 _)
    (fun t _ => Inv d i X R o0 O W q q' t)
    (fun t acc => trip_spec d i X R o0 O W _ t hR acc))
  isplitl [HSI0 HP0 Hs5 HSI1 HP1 Hs6 HT HE HO]
  · isplitr; · iexact Hmw
    isplitl [HSI0]; · iexact HSI0
    isplitl [HP0 Hs5]
    · rw [SlotO_neg d i X R (by decide)]
      isplitl [HP0]; · iexists _; iexact HP0
      iexact Hs5
    isplitl [HSI1]; · iexact HSI1
    isplitl [HP1 Hs6]
    · rw [SlotO_neg d i X R (by decide)]
      isplitl [HP1]; · iexists _; iexact HP1
      iexact Hs6
    unfold Half
    isplitl [HT]; · iexact HT
    isplitr
    · rw [show base i + (2 * 0 - 2) = base i from rfl, oRange_self]
      rw [pointsTo_empty (ℓ := oLoc d i) (q := fullShare) (f := G X R)]
      iempintro
    isplitl [HE]; · iexact HE
    iexact HO
  iintro %acc HInv
  rw [wp_ret]; imodintro
  iapply Hk
  isplitl [HX]; · iexact HX
  isplitl [Hs0]; · iexact Hs0
  iexact HInv

set_option maxHeartbeats 4000000 in
/-- The task. -/
theorem task_spec (hR : ∀ x, (R x).toNat < 32) {qx q q' : PosShare TreeShare} {Φ : PUnit → sProp 𝕄} :
    iprop(Transfers.MayWaits (thr d i) (default : HIx 1) O ∗ (xLoc d i ↦{qx} X) ∗ (rLoc d i ↦{q} R) ∗ (rLoc d i ↦{q'} R)
        ∗ (oLoc d i ↦[oRange (base i) (base i + 64)]{fullShare} o0)
        ∗ (∃ f, tLoc d i ↦{fullShare} f) ∗ (∃ f, iLoc d i ↦{fullShare} f) ∗ (∃ f, pLoc d i ↦{fullShare} f)
        ∗ semVal ((thr d i), .dma cc1_scratch3.sem) 0 ∗ semVal ((thr d i), .dma cc1_scratch4.sem) 0 ∗ semVal ((thr d i), .dma cc1_scratch5.sem) 0 ∗ semVal ((thr d i), .dma cc1_scratch6.sem) 0 ∗ semVal ((thr d i), .dma cc1_scoped0.sem) 0 ∗ Ow (F := F) d i O W)
      ⊢ iprop((iprop((xLoc d i ↦{qx} X) ∗ (rLoc d i ↦{q} R) ∗ (rLoc d i ↦{q'} R)
        ∗ (oLoc d i ↦[oRange (base i) (base i + 64)]{fullShare} G X R)
        ∗ (∃ f, tLoc d i ↦{fullShare} f) ∗ (∃ f, iLoc d i ↦{fullShare} f) ∗ (∃ f, pLoc d i ↦{fullShare} f)
        ∗ semVal ((thr d i), .dma cc1_scratch3.sem) 0 ∗ semVal ((thr d i), .dma cc1_scratch4.sem) 0 ∗ semVal ((thr d i), .dma cc1_scratch5.sem) 0 ∗ semVal ((thr d i), .dma cc1_scratch6.sem) 0 ∗ semVal ((thr d i), .dma cc1_scoped0.sem) 0 ∗ Ow (F := F) d i O W) -∗ Φ ⟨⟩)
        -∗ wp frame (wpE (defs₀ (F := F)) 𝒱₀ (thr d i) none) Set.univ (cc1_sc_gather i xV (Memref.isWhole_whole _) rV (Memref.isWhole_whole _) oV (Memref.isWhole_whole _) sT (Memref.isWhole_whole _) sI (Memref.isWhole_whole _) sO (Memref.isWhole_whole _) cc1_scratch3 cc1_scratch4 cc1_scratch5 cc1_scratch6 cc1_scoped0) Φ) := by
  rw [cc1_sc_gather_eq_skeleton]; unfold cc1_sc_gather_skel
  rw [wp_bind]
  iintro ⟨#Hmw, H⟩ Hk
  iapply (part8_spec d i X R o0 O W hR (qx := qx) (q := q) (q' := q')) $$ [H]
  · isplitr; · iexact Hmw
    iexact H
  iintro %z ⟨HX, Hs0, -, HSI0, HSO0, HSI1, HSO1, HH⟩
  simp only [Prog.lift, Prog.bind_op, Prog.bind_ret, Prog.pure_eq_ret, Prog.bind_assoc]
  ihave HH := (Entails.of_eq (show Half d i X R o0 O W (2 * 32) = _ from by unfold Half; rfl)) $$ HH
  icases HH with ⟨HT, HD, HE, HO⟩
  ihave HSI0 := (Entails.of_eq (SlotI_neg (F := F) d i R (show ¬ 2 * 32 < 64 by decide))) $$ HSI0
  ihave HSI1 := (Entails.of_eq (SlotI_neg (F := F) d i R (show ¬ 2 * 32 + 1 < 64 by decide))) $$ HSI1
  ihave HSO0 := (Entails.of_eq (SlotO_pos d i X R (show 2 ≤ 2 * 32 by decide))) $$ HSO0
  ihave HSO1 := (Entails.of_eq (SlotO_pos d i X R (show 2 ≤ 2 * 32 + 1 by decide))) $$ HSO1
  icases HSI0 with ⟨HI0, Hs3, HR0⟩
  icases HSI1 with ⟨HI1, Hs4, HR1⟩
  iapply (leave d i X R (b := 0) (c := 62) (O := O) (W := W)) $$ [HSO0 HD HO]
  · isplitr; · iexact Hmw
    isplitl [HSO0]; · iexact HSO0
    isplitl [HD]; · iexact HD
    iexact HO
  iintro ⟨HP0, Hs5, HD, HO⟩
  iapply (leave d i X R (b := 1) (c := 63) (O := O) (W := W)) $$ [HSO1 HD HO]
  · isplitr; · iexact Hmw
    isplitl [HSO1]; · iexact HSO1
    isplitl [HD]; · iexact HD
    iexact HO
  iintro ⟨HP1, Hs6, HD, HO⟩
  rw [wp_ret]; imodintro
  iapply Hk
  isplitl [HX]; · iexact HX
  isplitl [HR0]; · iexact HR0
  isplitl [HR1]; · iexact HR1
  isplitl [HD]; · iexact HD
  isplitl [HT]; · iexists _; iexact HT
  isplitl [HI0 HI1]
  · iapply (show iprop((∃ f, iLoc d i ↦[iSet 0]{fullShare} f) ∗ (∃ f, iLoc d i ↦[iSet 1]{fullShare} f)) ⊢ (iprop(∃ f, iLoc d i ↦{fullShare} f) : sProp 𝕄) from
      (join_parts (ℓ := iLoc d i) iSet_disjoint).trans (Entails.of_eq (by rw [iSet_union])))
    isplitl [HI0]; · iexact HI0
    iexact HI1
  isplitl [HP0 HP1]
  · iapply (show iprop((∃ f, pLoc d i ↦[pSet 0]{fullShare} f) ∗ (∃ f, pLoc d i ↦[pSet 1]{fullShare} f)) ⊢ (iprop(∃ f, pLoc d i ↦{fullShare} f) : sProp 𝕄) from
      (join_parts (ℓ := pLoc d i) pSet_disjoint).trans (Entails.of_eq (by rw [pSet_union])))
    isplitl [HP0]; · iexact HP0
    iexact HP1
  isplitl [Hs3]; · iexact Hs3
  isplitl [Hs4]; · iexact Hs4
  isplitl [Hs5]; · iexact Hs5
  isplitl [Hs6]; · iexact Hs6
  isplitl [Hs0]; · iexact Hs0
  iexact HO

set_option maxHeartbeats 4000000 in
/-- The task on vector subcore `i` of device `d`, as the launch states it. -/
theorem tile_body (hF : (K (F := F)).Facts) (hR : ∀ x, (R x).toNat < 32) {qx q : PosShare TreeShare} (hO : ∀ g, O g none = 0) :
    (iprop(levAts (K (F := F)).L (K (F := F)).lev ∗ emp
        ∗ ((xLoc d i ↦{qx} X) ∗ (rLoc d i ↦{q} R) ∗ (oLoc d i ↦[oRange (base i) (base i + 64)]{fullShare} o0))
        ∗ scopedBufs (thr d i) ∗ scopedSems0 (thr d i) ∗ owes (thr d i) O W) : sProp 𝕄)
      ⊢ wp frame (wpE (defs₀ (F := F)) 𝒱₀ (thr d i) none) Set.univ (cc1_sc_gather i xV (Memref.isWhole_whole _) rV (Memref.isWhole_whole _) oV (Memref.isWhole_whole _) sT (Memref.isWhole_whole _) sI (Memref.isWhole_whole _) sO (Memref.isWhole_whole _) cc1_scratch3 cc1_scratch4 cc1_scratch5 cc1_scratch6 cc1_scoped0)
          fun _ => iprop(((xLoc d i ↦{qx} X) ∗ (rLoc d i ↦{q} R) ∗ (oLoc d i ↦[oRange (base i) (base i + 64)]{fullShare} G X R))
            ∗ scopedBufs (thr d i) ∗ scopedSems0 (thr d i)
            ∗ ∃ W', ⌜∀ p ∈ W', p ∈ W ∨ p.2 = none⌝ ∗ owes (thr d i) O W') := by
  rw [(K (F := F)).scopedBufs_V hF d (cV i) (jV i), SparseCore.Cfg.scopedSems0_V (Val := Elt F) d (cV i) (jV i), ownSems0_thr (F := F) d i, ownBufs_thr (F := F) d i]
  iintro ⟨#Hlv, -, ⟨HX, HR, HE⟩, ⟨HT, HI, HP, Hbufs⟩, ⟨Hs3, Hs4, Hs5, Hs6, Hs0, Hsems⟩, HO⟩
  ihave #Hmw := (show levAts (K (F := F)).L (K (F := F)).lev ⊢ Transfers.MayWaits (thr d i) (default : HIx 1) O from
    (K (F := F)).mayWaits_none (thr := thr d i) hO) $$ Hlv
  ihave HRs := (share_halves (F := F) d i R q).1 $$ HR
  icases HRs with ⟨HR0, HR1⟩
  iapply (task_spec d i X R o0 O W hR (qx := qx) (q := q.left) (q' := q.right)) $$ [HX HR0 HR1 HE HT HI HP Hs3 Hs4 Hs5 Hs6 Hs0 HO]
  · isplitr; · iexact Hmw
    isplitl [HX]; · iexact HX
    isplitl [HR0]; · iexact HR0
    isplitl [HR1]; · iexact HR1
    isplitl [HE]; · iexact HE
    isplitl [HT]; · iexact HT
    isplitl [HI]; · iexact HI
    isplitl [HP]; · iexact HP
    isplitl [Hs3]; · iexact Hs3
    isplitl [Hs4]; · iexact Hs4
    isplitl [Hs5]; · iexact Hs5
    isplitl [Hs6]; · iexact Hs6
    isplitl [Hs0]; · iexact Hs0
    iexists W
    isplitr [HO]; · ipureintro; exact fun p hp => Or.inl hp
    iexact HO
  iintro ⟨HX, HR0, HR1, HE, HT, HI, HP, Hs3, Hs4, Hs5, Hs6, Hs0, HO⟩
  isplitl [HX HR0 HR1 HE]
  · isplitl [HX]; · iexact HX
    isplitl [HR0 HR1]
    · iapply (share_halves (F := F) d i R q).2
      isplitl [HR0]; · iexact HR0
      iexact HR1
    iexact HE
  isplitl [HT HI HP Hbufs]
  · isplitl [HT]; · iexact HT
    isplitl [HI]; · iexact HI
    isplitl [HP]; · iexact HP
    iexact Hbufs
  isplitl [Hs3 Hs4 Hs5 Hs6 Hs0 Hsems]
  · isplitl [Hs3]; · iexact Hs3
    isplitl [Hs4]; · iexact Hs4
    isplitl [Hs5]; · iexact Hs5
    isplitl [Hs6]; · iexact Hs6
    isplitl [Hs0]; · iexact Hs0
    iexact Hsems
  iexact HO

end Tile

end Cert.Proof.Kern

end
-- ==== Proof.Split.lean ====
module

public import proofs.«01_k».proof.Proof.Tile

/-!
# What the SparseCore call takes and gives back, split among the subcores

The score table and the relative positions are read by all 32 subcores: each holds a share of the whole of both. The
result is split by rows: 64 consecutive rows to each subcore, the blocks alternating between the two cores.
-/

@[expose] public section

noncomputable section

namespace Cert.Proof.Kern

open Cert.KernelIdeal Cert.KernelIdeal.Gen
open Idealize.ShloMosaic
open Idealize.ShloMosaic.SparseCore (S V T)
open Idealize.ShloMosaic.SparseCore.Cfg (HIx Pay tileRest ownBufs ownSems0 ownCells ownRefs mem_ownCells mem_ownRefs)
open Idealize.ShloMosaic.ValueIdx
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

local notation "𝕄" => MT nD τ sig (HIx 1) (Elt F) ℕ UU ℕ

/-! ## Shares for many readers -/

/-- What is left of a share after `n` readers have each taken half of what was left before them. -/
def leftOver : ℕ → PosShare TreeShare → PosShare TreeShare
  | 0, q => q
  | n + 1, q => (leftOver n q).right
/-- The share of reader `n`. -/
def taken (n : ℕ) (q : PosShare TreeShare) : PosShare TreeShare := (leftOver n q).left

/-- The share of SparseCore `c`: one half to each of the two. -/
def coreShare (c : ℕ) : PosShare TreeShare := if c = 0 then (fullShare : PosShare TreeShare).left else (fullShare : PosShare TreeShare).right

theorem both_ways {A B : sProp 𝕄} (h : A ⊢ B) (h' : B ⊢ A) : A = B := BI.Entails.antisymm h h'

theorem share_eq {ℓ : Loc nD τ sig} (I : Finset (Idx ℓ)) (q : PosShare TreeShare) (f : Buf (Elt F) ℓ) :
    (ℓ ↦[I]{q} f : sProp 𝕄) = iprop((ℓ ↦[I]{q.left} f) ∗ ℓ ↦[I]{q.right} f) :=
  BI.Entails.antisymm (pointsTo_share (PosShare.mem_left_op_right q)).1 (pointsTo_share (PosShare.mem_left_op_right q)).2

theorem share_range {ℓ : Loc nD τ sig} (I : Finset (Idx ℓ)) (q : PosShare TreeShare) (f : Buf (Elt F) ℓ) (n : ℕ) :
    (ℓ ↦[I]{q} f : sProp 𝕄) = iprop((bigSep (Finset.range n) fun i => ℓ ↦[I]{taken i q} f) ∗ ℓ ↦[I]{leftOver n q} f) := by
  induction n with
  | zero =>
    rw [Finset.range_zero, bigSep_empty]
    refine both_ways ?_ ?_
    · iintro H; isplitr; · iempintro
      iexact H
    · iintro ⟨-, H⟩; iexact H
  | succ n ih =>
    rw [ih, Finset.range_add_one, SparseCore.bigSep_insert' (by simp), share_eq I (leftOver n q) f]
    refine both_ways ?_ ?_
    · iintro ⟨H, H1, H2⟩
      isplitl [H H1]
      · isplitl [H1]; · iexact H1
        iexact H
      · iexact H2
    · iintro ⟨⟨H1, H⟩, H2⟩
      isplitl [H]; · iexact H
      isplitl [H1]; · iexact H1
      iexact H2

/-- A share of a buffer is sixteen readers' shares and what is left over. -/
theorem share_sixteen {ℓ : Loc nD τ sig} (I : Finset (Idx ℓ)) (q : PosShare TreeShare) (f : Buf (Elt F) ℓ) :
    (ℓ ↦[I]{q} f : sProp 𝕄) = iprop((bigSep Finset.univ fun i : Fin 16 => ℓ ↦[I]{taken i.val q} f) ∗ ℓ ↦[I]{leftOver 16 q} f) := by
  rw [share_range I q f 16]
  congr 1

/-! ## The rows of the result -/

/-- Where the rows of subcore `i` of SparseCore `c` begin. -/
abbrev rowOf (c i : ℕ) : ℕ := (2 * i + c) * 64
/-- The rows of SparseCore `c`: the blocks of 64 rows whose number is `c` modulo two. -/
def coreSet (c : ℕ) : Finset S12x2048x2048.Idx := Finset.univ.filter fun x => ((x 1).val / 64) % 2 = c

theorem mem_coreSet {c : ℕ} {x : S12x2048x2048.Idx} : x ∈ coreSet c ↔ ((x 1).val / 64) % 2 = c := by simp [coreSet]

theorem coreSet_disjoint {c c' : ℕ} (h : c ≠ c') : Disjoint (coreSet c) (coreSet c') := by
  rw [Finset.disjoint_left]; intro x h1 h2; rw [mem_coreSet] at h1 h2; omega

theorem coreSet_union : coreSet 0 ∪ coreSet 1 = Finset.univ := by
  ext x; rw [Finset.mem_union, mem_coreSet, mem_coreSet]
  exact ⟨fun _ => Finset.mem_univ _, fun _ => by omega⟩

theorem tiles_disjoint (c : Fin 2) : ∀ i ∈ (Finset.univ : Finset (Fin 16)), ∀ j ∈ (Finset.univ : Finset (Fin 16)), i ≠ j →
    Disjoint (oRange (rowOf c.val i.val) (rowOf c.val i.val + 64)) (oRange (rowOf c.val j.val) (rowOf c.val j.val + 64)) := by
  intro i _ j _ h
  rw [Finset.disjoint_left]; intro x h1 h2; rw [mem_oRange] at h1 h2
  exact h (Fin.ext (by simp only [rowOf] at h1 h2; omega))

theorem tiles_cover (c : Fin 2) :
    (Finset.univ : Finset (Fin 16)).biUnion (fun i => oRange (rowOf c.val i.val) (rowOf c.val i.val + 64)) = coreSet c.val := by
  ext x
  have h1 : (x 1).val < 2048 := (x 1).isLt
  have hc := c.isLt
  simp only [Finset.mem_biUnion, Finset.mem_univ, true_and, mem_oRange, mem_coreSet, rowOf]
  constructor
  · rintro ⟨i, h⟩; omega
  · intro h
    exact ⟨⟨(x 1).val / 128, by omega⟩, by simp only; omega⟩

/-! ## What the call carries -/

/-- The score table, the relative positions and the result, as the device's TensorCore addresses them. -/
abbrev xAt (d : Dev nD) : Loc nD τ sig := (SparseCore.T d).loc main_v7
abbrev rAt (d : Dev nD) : Loc nD τ sig := (SparseCore.T d).loc main_v8
abbrev oAt (d : Dev nD) : Loc nD τ sig := (SparseCore.T d).loc main_v9

section Carried

variable (X : S2048x384.Idx → F .f32) (R : S2048x2048.Idx → BitVec 32) (O : S12x2048x2048.Idx → F .f32) (d : Dev nD)

/-- One SparseCore's part: half of the table and of the positions, its rows of the result. -/
abbrev corePart (c : Fin 2) : sProp 𝕄 :=
  iprop((xAt d ↦{coreShare c.val} X) ∗ (rAt d ↦{coreShare c.val} R) ∗ (oAt d ↦[coreSet c.val]{fullShare} O))
/-- One subcore's part. -/
abbrev tilePart (c : Fin 2) (i : Fin 16) : sProp 𝕄 :=
  iprop((xAt d ↦{taken i.val (coreShare c.val)} X) ∗ (rAt d ↦{taken i.val (coreShare c.val)} R)
    ∗ (oAt d ↦[oRange (rowOf c.val i.val) (rowOf c.val i.val + 64)]{fullShare} O))

theorem coreRows (c : Fin 2) :
    (oAt d ↦[coreSet c.val]{fullShare} O : sProp 𝕄)
      = bigSep Finset.univ fun i : Fin 16 => oAt d ↦[oRange (rowOf c.val i.val) (rowOf c.val i.val + 64)]{fullShare} O := by
  rw [← pointsTo_biUnion Finset.univ (ℓ := oAt d) (fun i : Fin 16 => oRange (rowOf c.val i.val) (rowOf c.val i.val + 64)) (tiles_disjoint c)]
  exact congrArg (fun I => (oAt d ↦[I]{fullShare} O : sProp 𝕄)) (tiles_cover c).symm

/-- A core's part is its sixteen subcores' parts, and what is left of the shares. -/
theorem corePart_eq (c : Fin 2) :
    (corePart X R O d c : sProp 𝕄)
      = iprop((bigSep Finset.univ fun i : Fin 16 => tilePart X R O d c i)
          ∗ (xAt d ↦{leftOver 16 (coreShare c.val)} X) ∗ (rAt d ↦{leftOver 16 (coreShare c.val)} R)) := by
  unfold corePart tilePart
  rw [coreRows, share_sixteen Finset.univ (coreShare c.val) (ℓ := xAt d) X, share_sixteen Finset.univ (coreShare c.val) (ℓ := rAt d) R,
    bigSep_sep', bigSep_sep']
  refine both_ways ?_ ?_
  · iintro ⟨⟨Hx, Hx'⟩, ⟨Hr, Hr'⟩, Ho⟩
    isplitl [Hx Hr Ho]
    · isplitl [Hx]; · iexact Hx
      isplitl [Hr]; · iexact Hr
      iexact Ho
    · isplitl [Hx']; · iexact Hx'
      iexact Hr'
  · iintro ⟨⟨Hx, Hr, Ho⟩, Hx', Hr'⟩
    isplitl [Hx Hx']
    · isplitl [Hx]; · iexact Hx
      iexact Hx'
    isplitl [Hr Hr']
    · isplitl [Hr]; · iexact Hr
      iexact Hr'
    iexact Ho

/-- The three buffers whole are the two cores' parts. -/
theorem whole_eq :
    (iprop((xAt d ↦{fullShare} X) ∗ (rAt d ↦{fullShare} R) ∗ (oAt d ↦{fullShare} O)) : sProp 𝕄)
      = iprop(corePart X R O d 0 ∗ corePart X R O d 1) := by
  unfold corePart
  have hO : (oAt d ↦{fullShare} O : sProp 𝕄) ⊣⊢ iprop((oAt d ↦[coreSet 0]{fullShare} O) ∗ oAt d ↦[coreSet 1]{fullShare} O) := by
    have h := pointsTo_union (Ix := HIx 1) (Name := ℕ) (U := UU) (Lvl := ℕ) (Val := Elt F) (ℓ := oAt d) (q := fullShare) (f := O)
      (coreSet_disjoint (c := 0) (c' := 1) (by decide))
    have e : (coreSet 0 ∪ coreSet 1 : Finset (Idx (oAt d))) = Finset.univ := coreSet_union
    rw [← e]; exact h
  rw [share_eq Finset.univ fullShare (ℓ := xAt d) X, share_eq Finset.univ fullShare (ℓ := rAt d) R,
    BI.Entails.antisymm hO.1 hO.2]
  refine both_ways ?_ ?_
  · iintro ⟨⟨Hx, Hx'⟩, ⟨Hr, Hr'⟩, Ho, Ho'⟩
    isplitl [Hx Hr Ho]
    · isplitl [Hx]; · iexact Hx
      isplitl [Hr]; · iexact Hr
      iexact Ho
    · isplitl [Hx']; · iexact Hx'
      isplitl [Hr']; · iexact Hr'
      iexact Ho'
  · iintro ⟨⟨Hx, Hr, Ho⟩, Hx', Hr', Ho'⟩
    isplitl [Hx Hx']
    · isplitl [Hx]; · iexact Hx
      iexact Hx'
    isplitl [Hr Hr']
    · isplitl [Hr]; · iexact Hr
      iexact Hr'
    isplitl [Ho]; · iexact Ho
    iexact Ho'

end Carried

/-! ## The call's obligations -/

section Call

variable (X : Dev nD → S2048x384.Idx → F .f32) (R : Dev nD → S2048x2048.Idx → BitVec 32) (O : Dev nD → S12x2048x2048.Idx → F .f32)

/-- The call takes each core's part with the result at its contents `O` before, each task takes its own part, and both
    come back with the gathered values in the result. -/
def P : (K (F := F)).Pay (nD := nD) (Val := Elt F) (Name := ℕ) (U := UU) where
  st := fun q d c => match q with | 0 => corePart (X d) (R d) (O d) d c
  dn := fun q d c => match q with | 0 => corePart (X d) (R d) (G (X d) (R d)) d c
  go := fun q d c i => match q with | 0 => tilePart (X d) (R d) (O d) d c i
  td := fun q d c i => match q with | 0 => tilePart (X d) (R d) (G (X d) (R d)) d c i
  x := fun _ _ => iprop(emp)

instance P_storable : (P X R O).IsStorable where
  st q d c := match q with
    | 0 => (inferInstance : BI.Storable (upEmb : UEmb _ 𝕄) (corePart (X d) (R d) (O d) d c))
  dn q d c := match q with
    | 0 => (inferInstance : BI.Storable (upEmb : UEmb _ 𝕄) (corePart (X d) (R d) (G (X d) (R d)) d c))
  go q d c i := match q with
    | 0 => (inferInstance : BI.Storable (upEmb : UEmb _ 𝕄) (tilePart (X d) (R d) (O d) d c i))
  td q d c i := match q with
    | 0 => (inferInstance : BI.Storable (upEmb : UEmb _ 𝕄) (tilePart (X d) (R d) (G (X d) (R d)) d c i))

/-- A core's part splits into its tasks' parts; their parts at the end join to the core's. -/
theorem vecSplit : (K (F := F)).VecSplit' (P X R O) 0 := by
  intro d c
  show (corePart (X d) (R d) (O d) d c : sProp 𝕄) ⊢ |={Set.univ}=> iprop(
      (bigSep Finset.univ fun i : Fin 16 => tilePart (X d) (R d) (O d) d c i)
      ∗ ((bigSep Finset.univ fun i : Fin 16 => tilePart (X d) (R d) (G (X d) (R d)) d c i) -∗ corePart (X d) (R d) (G (X d) (R d)) d c))
  rw [corePart_eq (X d) (R d) (O d), corePart_eq (X d) (R d) (G (X d) (R d))]
  iintro ⟨H, Hrest⟩; imodintro
  isplitl [H]; · iexact H
  iintro H
  isplitl [H]; · iexact H
  iexact Hrest

/-- The coordinates of subcore `s` of SparseCore `c`. -/
def coordsV (c : Fin (grid1.bound 0)) (s : Fin (grid1.bound 1)) : grid1.Coords :=
  fun | 0 => c | 1 => s | ⟨_ + 2, h⟩ => absurd h (Nat.not_lt.2 (Nat.le_add_left _ _))

/-- A task's part as its own thread addresses it. -/
theorem tilePart_eq (d : Dev nD) (A : S2048x384.Idx → F .f32) (B : S2048x2048.Idx → BitVec 32) (C : S12x2048x2048.Idx → F .f32) (c : Fin 2) (i : Fin 16) :
    (tilePart A B C d c i : sProp 𝕄)
      = iprop((xLoc d (coordsV c i) ↦{taken i.val (coreShare c.val)} A) ∗ (rLoc d (coordsV c i) ↦{taken i.val (coreShare c.val)} B)
          ∗ (oLoc d (coordsV c i) ↦[oRange (base (coordsV c i)) (base (coordsV c i) + 64)]{fullShare} C)) := rfl

variable [FloatOps F]

theorem defs₀_vector (c : Fin τ.nSC) (s : Fin τ.nSub) :
    defs₀ (F := F) (.scVector c s) 1 ()
      = SparseCore.onTile hcore1 hsub1 (fun c s => cc1_sc_gather (coordsV c s)
          xV (Memref.isWhole_whole _) rV (Memref.isWhole_whole _) oV (Memref.isWhole_whole _)
          sT (Memref.isWhole_whole _) sI (Memref.isWhole_whole _) sO (Memref.isWhole_whole _)
          cc1_scratch3 cc1_scratch4 cc1_scratch5 cc1_scratch6 cc1_scoped0) ⟨⟩ c s := rfl

theorem obl_post {thr : Thread nD τ} {A B C : sProp 𝕄} {O : CellTallies nD τ sig (HIx 1)} {W : Waits sig (HIx 1)} {q : Fin 1} :
    iprop(A ∗ B ∗ C ∗ ∃ W', ⌜∀ p ∈ W', p ∈ W ∨ p.2 = none⌝ ∗ owes thr O W')
      ⊢ iprop(A ∗ B ∗ C ∗ ∃ W', ⌜∀ p ∈ W', p ∈ W ∨ p.2 = none ∨ p.2 = some q⌝ ∗ owes thr O W') := by
  iintro ⟨HA, HB, HC, %W', %hW', HO⟩
  isplitl [HA]; · iexact HA
  isplitl [HB]; · iexact HB
  isplitl [HC]; · iexact HC
  iexists W'; isplitr
  · ipureintro; exact fun p hp => (hW' p hp).imp_right Or.inl
  · iexact HO

set_option maxRecDepth 16384 in
/-- Each task's run, from the part it takes to the part it gives back. -/
theorem tileObl (hR : ∀ d x, (R d x).toNat < 32) : (K (F := F)).TileObl (D (F := F)) 𝒱 (P X R O) v₀ 0 := by
  intro d c i O' W hO _ _
  simp only [show (P X R O).ox = fun _ _ => 0 from rfl, add_zero]
  have hci : ((K (F := F)).core 0 c).val < grid1.bound 0 ∧ ((K (F := F)).sub 0 i).val < grid1.bound 1 := ⟨c.isLt, i.isLt⟩
  change _ ⊢ wp _ _ _ (Pipeline.liftProg (defs₀ (F := F) (.scVector ((K (F := F)).core 0 c) ((K (F := F)).sub 0 i)) 1 ())) _
  refine BIBase.Entails.trans ?_ (Pipeline.wp_liftProg (D (F := F)) (Pipeline.defs_kernel pcfgs defs₀) 𝒱₀ _ Set.univ none _ _)
  rw [defs₀_vector]; simp only [SparseCore.onTile, hci, and_self, ↓reduceDIte]
  exact (tile_body d (coordsV ⟨_, hci.1⟩ ⟨_, hci.2⟩) (X d) (R d) (O d) O' W facts (hR d) hO).trans (wp_mono frame _ _ fun _ => obl_post)

end Call

end Cert.Proof.Kern

end
-- ==== Proof.Scores.lean ====
module

public import proofs.«01_k».proof.Proof.Setup
public import proofs.«01_k».proof.Proof.Gen.KernelIdeal.Launch
public import proofs.«01_k».proof.Proof.Gen.KernelIdeal.Points
public import Idealize.ShloMosaic.Lib.Pipeline.RegionsLoop
public import Idealize.ShloMosaic.Lib.Pipeline.ValueKit

/-!
# The TensorCore's call: the table of scores
-/

@[expose] public section

noncomputable section

namespace Cert.Proof.Kern

open Cert.KernelIdeal Cert.KernelIdeal.Gen
open Idealize.ShloMosaic
open Idealize.ShloMosaic.SparseCore (S V T)
open Idealize.ShloMosaic.SparseCore.Cfg (HIx Pay tileRest ownBufs ownSems0 ownCells ownRefs mem_ownCells mem_ownRefs)
open Idealize.ShloMosaic.ValueIdx
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type} [FloatOps F]

local notation "𝕄" => MT nD τ sig (HIx 1) (Elt F) ℕ UU ℕ

open Idealize.ShloMosaic.TcCoe
open Idealize.ShloMosaic.Pipeline (Dat Cfg Window BodyObligation cellOf)

/-! ## The body -/

abbrev mQ : Memref sig .tc .vmem S12x2048x64 .f32 := stage0_0 0
abbrev mW : Memref sig .tc .vmem S12x64x32 .f32 := stage0_1 0
abbrev mX : Memref sig .tc .vmem S2048x384 .f32 := stage0_2 0

/-- Head `h` of the queries, and head `h` of the weights, as the body loads them. -/
def qHead (Q : S12x2048x64.Idx → F .f32) (h : ℕ) : Vec F S1x2048x64 .f32 := fun x => Q (ValueIdx.ix3 (Fin.ofNat 12 h) (x 1) (x 2))
def wHead (W : S12x64x32.Idx → F .f32) (h : ℕ) : Vec F S1x64x32 .f32 := fun x => W (ValueIdx.ix3 (Fin.ofNat 12 h) (x 1) (x 2))

/-- The table of scores that the body stores: the twelve products side by side. -/
def score (Q : S12x2048x64.Idx → F .f32) (W : S12x64x32.Idx → F .f32) : S2048x384.Idx → F .f32 :=
  k0_pay1 (k0_pay2 (qHead Q 0) (wHead W 0)) (k0_pay3 (qHead Q 1) (wHead W 1)) (k0_pay4 (qHead Q 2) (wHead W 2))
    (k0_pay5 (qHead Q 3) (wHead W 3)) (k0_pay6 (qHead Q 4) (wHead W 4)) (k0_pay7 (qHead Q 5) (wHead W 5))
    (k0_pay8 (qHead Q 6) (wHead W 6)) (k0_pay9 (qHead Q 7) (wHead W 7)) (k0_pay10 (qHead Q 8) (wHead W 8))
    (k0_pay11 (qHead Q 9) (wHead W 9)) (qHead Q 10) (wHead W 10) (qHead Q 11) (wHead W 11)

/-- The body, run over its three buffers; with it what it leaves in the third, as the stores build it. -/
noncomputable def scoresRun (c : Dev nD) (f0 : Buf (Elt F) (mQ.view.loc (c : Thread nD τ))) (f1 : Buf (Elt F) (mW.view.loc (c : Thread nD τ))) :
    { W : Buf (Elt F) (mX.view.loc (c : Thread nD τ)) // ∀ (f2 : Buf (Elt F) (mX.view.loc (c : Thread nD τ))) (Q : PUnit → sProp 𝕄),
        iprop((mQ.view.loc (c : Thread nD τ) ↦{fullShare} f0) ∗ (mW.view.loc (c : Thread nD τ) ↦{fullShare} f1) ∗ (mX.view.loc (c : Thread nD τ) ↦{fullShare} f2)
          ∗ (iprop((mQ.view.loc (c : Thread nD τ) ↦{fullShare} f0) ∗ (mW.view.loc (c : Thread nD τ) ↦{fullShare} f1) ∗ (mX.view.loc (c : Thread nD τ) ↦{fullShare} W)) -∗ Q ⟨⟩))
          ⊢ wp frame (wpE (defs₀ (F := F)) 𝒱₀ c none) Set.univ (cc0__scores_body mQ (hstage0_0 0) mW (hstage0_1 0) mX (hstage0_2 0)) Q } := by
  refine ⟨?_, fun f2 Q => ?run⟩
  case run =>
    rw [cc0__scores_body_eq_skeleton]
    unfold cc0__scores_body_skel
    rw [k0_part1_eq_skeleton, k0_part2_eq_skeleton]
    unfold k0_part1_skel k0_part2_skel
    iintro ⟨H0, H1, H2, Hk⟩
    sl_exec!
    sl_step
    iapply Hk
    isplitl [H0]; · iexact H0
    isplitl [H1]; · iexact H1
    iexact H2

theorem load_q (f : S12x2048x64.Idx → F .f32) (h : ℕ) (hh : h < 12) (inb : ∀ a, (![h, 0, 0] : Fin 3 → ℕ) a + S1x2048x64.size a ≤ S12x2048x64.size a) :
    (View.readAt (Elt F) (View.whole cc0_stg0_0) (Rect.unit (s := S12x2048x64) ![h, 0, 0] S1x2048x64.size inb).toLoadRect f : Vec F S1x2048x64 .f32) = qHead f h := by
  funext x
  show f _ = f _
  congr 1
  funext a
  fin_cases a <;> apply Fin.ext
  · show h + 1 * (x 0).val = h % 12
    have : (x 0).val < 1 := (x 0).isLt
    omega
  · show 0 + 1 * (x 1).val = (x 1).val
    omega
  · show 0 + 1 * (x 2).val = (x 2).val
    omega

theorem load_w (f : S12x64x32.Idx → F .f32) (h : ℕ) (hh : h < 12) (inb : ∀ a, (![h, 0, 0] : Fin 3 → ℕ) a + S1x64x32.size a ≤ S12x64x32.size a) :
    (View.readAt (Elt F) (View.whole cc0_stg1_0) (Rect.unit (s := S12x64x32) ![h, 0, 0] S1x64x32.size inb).toLoadRect f : Vec F S1x64x32 .f32) = wHead f h := by
  funext x
  show f _ = f _
  congr 1
  funext a
  fin_cases a <;> apply Fin.ext
  · show h + 1 * (x 0).val = h % 12
    have : (x 0).val < 1 := (x 0).isLt
    omega
  · show 0 + 1 * (x 1).val = (x 1).val
    omega
  · show 0 + 1 * (x 2).val = (x 2).val
    omega

theorem whole_store (f g : S2048x384.Idx → F .f32) (inb : ∀ a, (![0, 0] : Fin 2 → ℕ) a + S2048x384.size a ≤ S2048x384.size a) :
    ((View.whole cc0_stg2_0).slice (Rect.unit (s := S2048x384) ![0, 0] S2048x384.size inb)).write (Elt F) f g Finset.univ = g :=
  Memref.write_access_unit_zero_univ (Elt F) cc0_stg2_0 (funext fun a => by fin_cases a <;> rfl) inb f g

/-- What the body leaves is the table of scores. -/
theorem scoresRun_eq (c : Dev nD) (f0 : Buf (Elt F) (mQ.view.loc (c : Thread nD τ))) (f1 : Buf (Elt F) (mW.view.loc (c : Thread nD τ))) :
    (scoresRun c f0 f1).1 = score (F := F) f0 f1 := by
  dsimp only [scoresRun, scoresRun.sl.H2_1]
  rw [View.writes_singleton]
  unfold score
  rw [← load_q f0 0 (by decide) inb_S12x2048x64_S1x2048x64_0_0_0, ← load_q f0 1 (by decide) inb_S12x2048x64_S1x2048x64_1_0_0,
    ← load_q f0 2 (by decide) inb_S12x2048x64_S1x2048x64_2_0_0, ← load_q f0 3 (by decide) inb_S12x2048x64_S1x2048x64_3_0_0,
    ← load_q f0 4 (by decide) inb_S12x2048x64_S1x2048x64_4_0_0, ← load_q f0 5 (by decide) inb_S12x2048x64_S1x2048x64_5_0_0,
    ← load_q f0 6 (by decide) inb_S12x2048x64_S1x2048x64_6_0_0, ← load_q f0 7 (by decide) inb_S12x2048x64_S1x2048x64_7_0_0,
    ← load_q f0 8 (by decide) inb_S12x2048x64_S1x2048x64_8_0_0, ← load_q f0 9 (by decide) inb_S12x2048x64_S1x2048x64_9_0_0,
    ← load_q f0 10 (by decide) inb_S12x2048x64_S1x2048x64_10_0_0, ← load_q f0 11 (by decide) inb_S12x2048x64_S1x2048x64_11_0_0,
    ← load_w f1 0 (by decide) inb_S12x64x32_S1x64x32_0_0_0, ← load_w f1 1 (by decide) inb_S12x64x32_S1x64x32_1_0_0,
    ← load_w f1 2 (by decide) inb_S12x64x32_S1x64x32_2_0_0, ← load_w f1 3 (by decide) inb_S12x64x32_S1x64x32_3_0_0,
    ← load_w f1 4 (by decide) inb_S12x64x32_S1x64x32_4_0_0, ← load_w f1 5 (by decide) inb_S12x64x32_S1x64x32_5_0_0,
    ← load_w f1 6 (by decide) inb_S12x64x32_S1x64x32_6_0_0, ← load_w f1 7 (by decide) inb_S12x64x32_S1x64x32_7_0_0,
    ← load_w f1 8 (by decide) inb_S12x64x32_S1x64x32_8_0_0, ← load_w f1 9 (by decide) inb_S12x64x32_S1x64x32_9_0_0,
    ← load_w f1 10 (by decide) inb_S12x64x32_S1x64x32_10_0_0, ← load_w f1 11 (by decide) inb_S12x64x32_S1x64x32_11_0_0]
  exact whole_store _ _ _

/-! ## The call's data -/

/-- The operands as the fetches bring them. -/
abbrev qIn (V : Valuation τ sig (Elt F)) : (cfg0.win 0).block.Idx → Elt F (cfg0.win 0).elt :=
  ((cfg0.win 0).blk t0_0).view.read (Elt F) (V main_v6)
abbrev wIn (V : Valuation τ sig (Elt F)) : (cfg0.win 1).block.Idx → Elt F (cfg0.win 1).elt :=
  ((cfg0.win 1).blk t0_0).view.read (Elt F) (V main_v5)

/-- The waits recorded at the call: none that lies above the handshakes not yet begun. -/
abbrev rec₀ (c : Dev nD) : Set (SemLoc sig × HIx 1) := {p | (K (F := F)).lev ((c : Thread nD τ), p.1) p.2 ≤ 0}

/-- The call's data from the buffers' contents `V`. -/
def dat (V : Valuation τ sig (Elt F)) (c : Dev nD) : Dat τ (Elt F) (HIx 1) ℕ UU ℕ cfg0 c where
  A w := V (Proc.devRef .tc (Pipeline.arrRef spec0 w))
  after w _ := match w with
    | ⟨0, _⟩ => qIn V
    | ⟨1, _⟩ => wIn V
    | ⟨2, _⟩ => score (F := F) (qIn V) (wIn V)
  Φ _ := Pipeline.scopedRest (Ix := HIx 1) (Name := ℕ) (U := UU) (Lvl := ℕ) (Val := Elt F) spec0 c
  q _ := fullShare
  owed _ := (K (F := F)).Otc c 0
  recorded _ := rec₀ (F := F) c

abbrev adm : (p : Fin 1) → (pcfgs (F := F) p).Adm := fun p => (cfgs p).toPCfg_adm

def pdats (V : Valuation τ sig (Elt F)) : (p : Fin 1) → (c : Dev nD) → Dat τ (Elt F) (HIx 1) ℕ UU ℕ (Pipeline.pin (pcfgs (F := F)) adm p) c
  | ⟨0, _⟩ => fun c => dat V c

theorem before_q (V : Valuation τ sig (Elt F)) (c : Dev nD) (d : (cfg0.win 0).block.Idx → Elt F (cfg0.win 0).elt) : (dat V c).before 0 t0_0 d = qIn V := by
  unfold Dat.before; rw [if_pos (by decide)]; rfl
theorem before_w (V : Valuation τ sig (Elt F)) (c : Dev nD) (d : (cfg0.win 1).block.Idx → Elt F (cfg0.win 1).elt) : (dat V c).before 1 t0_0 d = wIn V := by
  unfold Dat.before; rw [if_pos (by decide)]; rfl

theorem body_obligation (V : Valuation τ sig (Elt F)) (c : Dev nD) : BodyObligation (dat V c) (defs₀ (F := F)) 𝒱₀ none Set.univ := fun t => by
  obtain rfl := fin_N0 t
  rw [bigSep_W0, bigSep_W0]
  simp only [owns_whole_eq]
  rw [show (dat V c).Φ t0_0.castSucc = Pipeline.scopedRest spec0 c from rfl, show (dat V c).Φ t0_0.succ = Pipeline.scopedRest spec0 c from rfl,
    show (dat V c).owesAt none t0_0.succ = (dat V c).owesAt none t0_0.castSucc from rfl]
  iintro ⟨HΦ, Howes, ⟨%d0, %f0, %hf0, H0⟩, ⟨%d1, %f1, %hf1, H1⟩, ⟨%d2, %f2, -, H2⟩⟩
  rw [before_q] at hf0
  rw [before_w] at hf1
  subst hf0 hf1
  iapply ((scoresRun c (qIn V) (wIn V)).2 f2 _)
  isplitl [H0]; · iexact H0
  isplitl [H1]; · iexact H1
  isplitl [H2]; · iexact H2
  iintro ⟨H0, H1, H2⟩
  isplitl [HΦ]; · iexact HΦ
  isplitl [Howes]; · iexact Howes
  isplitl [H0]; · iexists _; isplitr; swap; (· iexact H0); ipureintro; dsimp only [dat]
  isplitl [H1]; · iexists _; isplitr; swap; (· iexact H1); ipureintro; dsimp only [dat]
  iexists _; isplitr; swap; (· iexact H2); ipureintro; exact scoresRun_eq c _ _

/-! ## The arrays around the call -/

theorem idx0_0 : win0_0.index t0_0 = fun _ => 0 := by funext a; fin_cases a <;> rfl
theorem idx0_1 : win0_1.index t0_0 = fun _ => 0 := by funext a; fin_cases a <;> rfl
theorem idx0_2 : win0_2.index t0_0 = fun _ => 0 := by funext a; fin_cases a <;> rfl

theorem blk_q (y : (cfg0.win 0).block.Idx) : (((cfg0.win 0).blk t0_0).view.emb y : S12x2048x64.Idx) = y := by
  funext a
  apply Fin.ext
  blk_simp
  rw [idx0_0]
  simp

theorem blk_w (y : (cfg0.win 1).block.Idx) : (((cfg0.win 1).blk t0_0).view.emb y : S12x64x32.Idx) = y := by
  funext a
  apply Fin.ext
  blk_simp
  rw [idx0_1]
  simp

theorem blk_x (y : (cfg0.win 2).block.Idx) : (((cfg0.win 2).blk t0_0).view.emb y : S2048x384.Idx) = y := by
  funext a
  apply Fin.ext
  blk_simp
  rw [idx0_2]
  simp

theorem qIn_eq (V : Valuation τ sig (Elt F)) : qIn V = (V main_v6 : S12x2048x64.Idx → F .f32) :=
  funext fun y => congrArg (V main_v6 : S12x2048x64.Idx → F .f32) (blk_q y)
theorem wIn_eq (V : Valuation τ sig (Elt F)) : wIn V = (V main_v5 : S12x64x32.Idx → F .f32) :=
  funext fun y => congrArg (V main_v5 : S12x64x32.Idx → F .f32) (blk_w y)

/-- After the call its result's array is the table of scores of its operands. -/
theorem arr_x (V : Valuation τ sig (Elt F)) (c : Dev nD) :
    (dat V c).arrAt 2 cfg0.N = score (F := F) (V main_v6) (V main_v5) := by
  refine (dat V c).arrAt_eq_of_covers 2 _ (by decide +kernel) fun t hf y => ?_
  obtain rfl := fin_N0 t
  rw [← qIn_eq V, ← wIn_eq V]
  exact (congrArg (score (F := F) (qIn V) (wIn V)) (blk_x y)).symm

/-- The buffers after the call. -/
def scored (V : Valuation τ sig (Elt F)) : Valuation τ sig (Elt F) :=
  Function.update V (main_v7 : DevRef τ sig) (score (F := F) (V main_v6) (V main_v5))

theorem scored_v7 (V : Valuation τ sig (Elt F)) : scored V main_v7 = score (F := F) (V main_v6) (V main_v5) := Function.update_self ..
theorem scored_ne (V : Valuation τ sig (Elt F)) {b : DevRef τ sig} (h : b ≠ (main_v7 : DevRef τ sig)) : scored V b = V b := Function.update_of_ne h ..

/-- What the core owes, with the bound on the waits recorded. -/
abbrev owing (c : Dev nD) : sProp 𝕄 :=
  iprop(∃ W, ⌜(K (F := F)).WBelow (T c) W 0⌝ ∗ owes (T c) ((K (F := F)).Otc c 0) W)

theorem otc_none (c : Dev nD) (g : GSem nD τ sig) : (K (F := F)).Otc c 0 g none = 0 := by
  by_contra h
  have := (K (F := F)).lev_of_Otc_pos (Nat.pos_of_ne_zero h)
  rw [SparseCore.Cfg.lev_none] at this
  omega

set_option backward.isDefEq.respectTransparency.types false in
/-- The call as a region over every buffer outside it at `V`. -/
def reg (V : Valuation τ sig (Elt F)) : Pipeline.RegionSeg (pcfgs (F := F)) adm (pdats V) none defs₀ 𝒱₀ (K (F := F)).L (K (F := F)).lev 0 where
  win := (launch0).win.to₀
  block_pos := (launch0).block_pos
  stage_whole := (launch0).stage_whole
  K := PEmpty
  osem k := k.elim
  ho := Pipeline.OwnSemFacts.none _
  hbody c := (body_obligation V c).loose
  hwaits c := Pipeline.cellsWaits_intro (Pipeline.pin (pcfgs (F := F)) adm) (pdats V) none 0 c fun w s t =>
    (K (F := F)).mayWait_none _ (otc_none c)
  pre c := iprop(unscopedBufs c (fun b => V b) ∗ owing c)
  post c := iprop(unscopedBufs c (fun b => scored V b) ∗ owing c)
  X _ := BI.emp
  Y _ := BI.emp
  Z c := Pipeline.unscopedRest (Ix := HIx 1) (Name := ℕ) (U := UU) (Lvl := ℕ) spec0 c (fun b => V b)
  hentry c := by
    rw [Pipeline.ownSems0_none]
    have hsplit := Pipeline.arrays_of_unscopedBufs (p := 0) (pcfgs (F := F)) adm (pdats V) (launch0).win (launch0).arr_whole c
      ((pdats V 0 c).share_full fun _ => rfl) (fun b => V b) fun _ => rfl
    iintro ⟨⟨Hub, ⟨%W, %hW, HO⟩⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      iexists W; isplitr; · ipureintro; exact fun p hp => Or.inl (hW p hp)
      iexact HO
    isplitr; · iempintro
    iexact Hrest
  hin c := by
    rw [show (pdats V 0 c).Φ 0 = Pipeline.scopedRest spec0 c from rfl]
    iintro ⟨-, -, Hr⟩; iexact Hr
  hout c := by
    rw [Pipeline.ownSems0_none, show (pdats V 0 c).Φ (Fin.last _) = Pipeline.scopedRest spec0 c from rfl]
    iintro Hr
    isplitr; · iempintro
    isplitr; · iempintro
    iexact Hr
  hexit c := by
    have hjoin := Pipeline.unscopedBufs_of_arrays (p := 0) (pcfgs (F := F)) adm (Ix := HIx 1) (Name := ℕ) (U := UU) (Lvl := ℕ) (launch0).win (launch0).arr_whole c
      (pdats V) ((pdats V 0 c).share_full fun _ => rfl) (fun b => V b) (fun b => scored V b) ((pdats V 0 c).arrAt · cfg0.N)
      (fun w => by
        fin_cases w
        · exact ((pdats V 0 c).arrAt_in 0 rfl _).trans (scored_ne V (b := (main_v6 : DevRef τ sig)) (by decide)).symm
        · exact ((pdats V 0 c).arrAt_in 1 rfl _).trans (scored_ne V (b := (main_v5 : DevRef τ sig)) (by decide)).symm
        · exact (arr_x V c).trans (scored_v7 V).symm)
      (fun b hb => scored_ne V fun h => hb (Finset.mem_image.mpr ⟨2, Finset.mem_univ _, (Proc.devRef_injective _ h).symm⟩))
    iintro ⟨Ha, HO, -, Hrest⟩
    imodintro
    isplitl [Ha Hrest]
    · iapply hjoin; isplitl [Ha] <;> iassumption
    unfold Pipeline.Dat.owesAt Pipeline.owesWithin
    icases HO with ⟨%W, %hW, HO⟩
    iexists W
    isplitr
    · ipureintro
      intro p hp
      rcases hW hp with h | ⟨w, s, rfl⟩
      · exact h
      · exact le_rfl
    iexact HO

abbrev callEntry : Prog (TpuEff nD τ sig (Elt F) (ΛP (F := F)) .tc) PUnit := .op (.customCall (Pipeline.entry 0) ()) fun _ => .ret ⟨⟩

/-- The call on its own: from every buffer outside it at `V` to the same with the table of scores. -/
theorem region_wp (c : Dev nD) (V : Valuation τ sig (Elt F)) (Q : PUnit → sProp 𝕄) :
    (iprop((iprop(boundary (T c) ∗ unscopedBufs c (fun b => scored V b) ∗ owing c) -∗ Q ⟨⟩)
        ∗ boundary (T c) ∗ iprop(unscopedBufs c (fun b => V b) ∗ owing c) ∗ levAts (K (F := F)).L (K (F := F)).lev
        ∗ Pipeline.cellsGhost (Pipeline.pin (pcfgs (F := F)) adm) EP 0 c ∗ Pipeline.toksInit (Pipeline.pin (pcfgs (F := F)) adm) EP 0 c) : sProp 𝕄)
      ⊢ wp frame (wpE D 𝒱 (T c) none) Set.univ callEntry Q := by
  have hinj : Function.Injective (Pipeline.cellOf (nD := nD) (τ := τ) (Pipeline.pin (pcfgs (F := F)) adm)) := cellOf_inj
  have hw := Pipeline.RegionSeg.wp (pcfgs (F := F)) adm (pdats V) none hinj EP defs₀ 𝒱₀ (K (F := F)).L (K (F := F)).lev (reg V) c none
    (fun _ h => absurd h (by simp)) (fun _ => .ret ⟨⟩) Q
  refine BIBase.Entails.trans ?_ hw
  refine sep_mono (wand_mono .rfl ?_) .rfl
  rw [wp_ret]
  exact fupd_intro

/-- The call in the program's thread: from every buffer outside it at `V` to the same with the table of scores. -/
theorem scores_wp (c : Dev nD) (V : Valuation τ sig (Elt F)) (Q : PUnit → sProp 𝕄) :
    (iprop(levAts (K (F := F)).L (K (F := F)).lev ∗ boundary (T c) ∗ StableHlo.held (T c) (Pipeline.ucRefs τ sig) V ∗ owing c
        ∗ Pipeline.cellsGhost (Pipeline.pin (pcfgs (F := F)) adm) EP 0 c ∗ Pipeline.toksInit (Pipeline.pin (pcfgs (F := F)) adm) EP 0 c
        ∗ ((boundary (T c) ∗ StableHlo.held (T c) (Pipeline.ucRefs τ sig) (scored V) ∗ owing c) -∗ Q ⟨⟩)) : sProp 𝕄)
      ⊢ wp frame (wpE ((K (F := F)).defs D) 𝒱 (T c) none) Set.univ (Prog.lift (.customCall (SparseCore.inner (Pipeline.entry 0)) ())) Q := by
  rw [← Pipeline.unscopedBufs_held c V, ← Pipeline.unscopedBufs_held c (scored V)]
  have hl := (K (F := F)).wp_liftProg (D (F := F)) 𝒱 (T c) Set.univ none (callEntry (F := F)) Q
  refine BIBase.Entails.trans ?_ hl
  refine BIBase.Entails.trans ?_ (region_wp c V Q)
  iintro ⟨Hl, Hb, Hu, HO, Hg, Ht, Hk⟩
  isplitl [Hk]; · iexact Hk
  isplitl [Hb]; · iexact Hb
  isplitl [Hu HO]
  · isplitl [Hu]; · iexact Hu
    iexact HO
  isplitl [Hl]; · iexact Hl
  isplitl [Hg]; · iexact Hg
  iexact Ht

end Cert.Proof.Kern

end
-- ==== Proof.Host.lean ====
module

public import proofs.«01_k».proof.Proof.Split
public import proofs.«01_k».proof.Proof.Scores

/-!
# The whole program's run

The operations on the TensorCore up to its call, that call, the reshape of the positions, the SparseCore call and the
last reshape; with them the contents of every buffer outside the calls' own, as a function of the launch memory.
-/

@[expose] public section

noncomputable section

namespace Cert.Proof.Kern

open Cert.KernelIdeal Cert.KernelIdeal.Gen
open Idealize.ShloMosaic
open Idealize.ShloMosaic.SparseCore (S V T)
open Idealize.ShloMosaic.SparseCore.Cfg (HIx Pay tileRest ownBufs ownSems0 ownCells ownRefs mem_ownCells mem_ownRefs)
open Idealize.ShloMosaic.ValueIdx
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type} [FloatOps F]

local notation "𝕄" => MT nD τ sig (HIx 1) (Elt F) ℕ UU ℕ

open Idealize.ShloMosaic.TcCoe

/-! ## The program as lines of operations around the two calls -/

/-- The operations before the TensorCore's call: row 0 of the weights set to zero, the weights brought to the form
    (head, feature, position) and padded to 32 positions, the queries without their unit axis. -/
def opsIn : List (HloOp τ sig (Elt F)) :=
  [StableHlo.nullary main_c (constantI S_ 32 0#32),
   StableHlo.unary main_c main_v0 (broadcastInDim S1 ![] bcast_S_S1 : (⟨S_, .i32⟩ : BufTy).Contents (Elt F) → (⟨S1, .i32⟩ : BufTy).Contents (Elt F)),
   StableHlo.nullary main_cst (constant S_ .f32 0x00000000#32),
   StableHlo.unary main_cst main_v1 (broadcastInDim S768 ![] bcast_S_S768 : (⟨S_, .f32⟩ : BufTy).Contents (Elt F) → (⟨S768, .f32⟩ : BufTy).Contents (Elt F)),
   StableHlo.ternary main_arg2 main_v0 main_v1 main_v2 ((fun x i u => Host.scatter scatter_S22x768_S1_S768_0_0_0_0 (fun _ b => b) x i u) :
     (⟨S22x768, .f32⟩ : BufTy).Contents (Elt F) → (⟨S1, .i32⟩ : BufTy).Contents (Elt F) → (⟨S768, .f32⟩ : BufTy).Contents (Elt F) → (⟨S22x768, .f32⟩ : BufTy).Contents (Elt F)),
   StableHlo.reshape main_v2 main_v3 (rfl : (.f32 : EltTy) = .f32) shapeCasts_S22x768_S22x12x64,
   StableHlo.unary main_v3 main_v4 ((transpose S12x64x22 [1, 2, 0] · transposes_S22x12x64_S12x64x22_1_2_0) :
     (⟨S22x12x64, .f32⟩ : BufTy).Contents (Elt F) → (⟨S12x64x22, .f32⟩ : BufTy).Contents (Elt F)),
   StableHlo.nullary main_c_0 (constantI S_ 32 0#32),
   StableHlo.TRef.unary (.of main_c_0 : StableHlo.TRef sig ⟨S_, .i32⟩) main_call0.v0 (sitofp .f32),
   StableHlo.TRef.binary (.of main_v4 : StableHlo.TRef sig ⟨S12x64x22, .f32⟩) main_call0.v0 main_call0.v1
     (fun x v => pad S12x64x32 ![0, 0, 0] ![0, 0, 10] ![0, 0, 0] x v pads_S12x64x22_S12x64x32_000_000_0100 h_S_),
   StableHlo.reshape main_arg0 main_v6 (rfl : (.f32 : EltTy) = .f32) shapeCasts_S1x12x2048x64_S12x2048x64]
/-- The reshape between the two calls. -/
abbrev opPos : HloOp τ sig (Elt F) := StableHlo.reshape main_arg1 main_v8 (rfl : (.i32 : EltTy) = .i32) shapeCasts_S1x2048x2048x1_S2048x2048
/-- The reshape after them. -/
abbrev opOut : HloOp τ sig (Elt F) := StableHlo.reshape main_v9 main_v10 (rfl : (.f32 : EltTy) = .f32) shapeCasts_S12x2048x2048_S1x12x2048x2048

/-- The reshape of the result, ending the program. -/
def tailOut : Prog (TpuEff nD τ sig (Elt F) (SparseCore.Sig (ΛP (F := F)) 1) .tc) PUnit := StableHlo.seq [opOut] >>= fun _ => pure ⟨⟩
/-- The program from the SparseCore call on, and from the reshape of the positions on. -/
def tailCall (d : Dev nD) : Prog (TpuEff nD τ sig (Elt F) (SparseCore.Sig (ΛP (F := F)) 1) .tc) PUnit := (K (F := F)).run d 0 >>= fun _ => tailOut
def tailPos (d : Dev nD) : Prog (TpuEff nD τ sig (Elt F) (SparseCore.Sig (ΛP (F := F)) 1) .tc) PUnit := StableHlo.seq [opPos] >>= fun _ => tailCall d
/-- The program from the TensorCore's call on. -/
def tailScores (d : Dev nD) : Prog (TpuEff nD τ sig (Elt F) (SparseCore.Sig (ΛP (F := F)) 1) .tc) PUnit :=
  (Prog.lift (.customCall (SparseCore.inner (Pipeline.entry 0)) ()) : Prog (TpuEff nD τ sig (Elt F) (SparseCore.Sig (ΛP (F := F)) 1) .tc) PUnit)
    >>= fun _ => tailPos d

theorem main_eq (d : Dev nD) : main (F := F) d = StableHlo.seq opsIn >>= fun _ => tailScores d := rfl

theorem opsIn_sub : ∀ op ∈ (opsIn : List (HloOp τ sig (Elt F))), op.bufs ⊆ Pipeline.ucRefs τ sig := by
  refine List.forall_mem_cons.mpr ⟨Pipeline.sub_ucRefs _ (StableHlo.nullary_bufs_sub ..), ?_⟩
  refine List.forall_mem_cons.mpr ⟨Pipeline.sub_ucRefs _ (StableHlo.unary_bufs_sub ..), ?_⟩
  refine List.forall_mem_cons.mpr ⟨Pipeline.sub_ucRefs _ (StableHlo.nullary_bufs_sub ..), ?_⟩
  refine List.forall_mem_cons.mpr ⟨Pipeline.sub_ucRefs _ (StableHlo.unary_bufs_sub ..), ?_⟩
  refine List.forall_mem_cons.mpr ⟨Pipeline.sub_ucRefs _ (StableHlo.ternary_bufs_sub ..), ?_⟩
  refine List.forall_mem_cons.mpr ⟨Pipeline.sub_ucRefs _ (StableHlo.reshape_bufs_sub ..), ?_⟩
  refine List.forall_mem_cons.mpr ⟨Pipeline.sub_ucRefs _ (StableHlo.unary_bufs_sub ..), ?_⟩
  refine List.forall_mem_cons.mpr ⟨Pipeline.sub_ucRefs _ (StableHlo.nullary_bufs_sub ..), ?_⟩
  refine List.forall_mem_cons.mpr ⟨Pipeline.sub_ucRefs _ (StableHlo.unary_bufs_sub ..), ?_⟩
  refine List.forall_mem_cons.mpr ⟨Pipeline.sub_ucRefs _ (StableHlo.binary_bufs_sub ..), ?_⟩
  refine List.forall_mem_cons.mpr ⟨Pipeline.sub_ucRefs _ (StableHlo.reshape_bufs_sub ..), ?_⟩
  exact fun _ h => absurd h List.not_mem_nil

theorem opsIn_fresh : ∀ op ∈ (opsIn : List (HloOp τ sig (Elt F))), op.fresh = ∅ := by
  iterate 11 refine List.forall_mem_cons.mpr ⟨rfl, ?_⟩
  exact fun _ h => absurd h List.not_mem_nil

/-! ## The contents of the buffers along the program -/

section Contents

variable (m : (ℓ : Loc nD τ sig) → Buf (Elt F) ℓ) (d : Dev nD)

/-- At the TensorCore's call, -/
def valIn : Valuation τ sig (Elt F) := StableHlo.after opsIn (fun b => m (d, b))
/-- at the SparseCore call, -/
def valCall : Valuation τ sig (Elt F) := (opPos (F := F)).result (scored (valIn m d))
/-- the score table, the relative positions and the result there; -/
def tableOf : S2048x384.Idx → F .f32 := valCall m d main_v7
def posOf : S2048x2048.Idx → BitVec 32 := valCall m d main_v8
def resBefore : S12x2048x2048.Idx → F .f32 := valCall m d main_v9
/-- after it, -/
def valGathered : Valuation τ sig (Elt F) := Function.update (valCall m d) (main_v9 : DevRef τ sig) (G (tableOf m d) (posOf m d))
/-- and at the end. -/
def valEnd : Valuation τ sig (Elt F) := (opOut (F := F)).result (valGathered m d)

end Contents

/-! ## The call's three buffers out of all -/

abbrev callRefs : Finset (DevRef τ sig) := {(main_v7 : DevRef τ sig), (main_v8 : DevRef τ sig), (main_v9 : DevRef τ sig)}

theorem callRefs_sub : callRefs ⊆ Pipeline.ucRefs τ sig := by
  intro b hb
  simp only [callRefs, Finset.mem_insert, Finset.mem_singleton] at hb
  unfold Pipeline.ucRefs
  rcases hb with h | h | h <;> subst h <;> exact Finset.mem_filter.mpr ⟨StableHlo.devRef_mem_tcRefs _, by decide⟩

theorem held_call (d : Dev nD) (V : Valuation τ sig (Elt F)) :
    (StableHlo.held (SparseCore.T d) (Pipeline.ucRefs τ sig) V : sProp 𝕄)
      = iprop(((xAt d ↦{fullShare} V main_v7) ∗ (rAt d ↦{fullShare} V main_v8) ∗ (oAt d ↦{fullShare} V main_v9))
          ∗ StableHlo.held (SparseCore.T d) (Pipeline.ucRefs τ sig \ callRefs) V) := by
  rw [StableHlo.held_sub_split (SparseCore.T d) callRefs_sub V]
  congr 1
  unfold StableHlo.held callRefs
  rw [SparseCore.bigSep_insert' (by decide), SparseCore.bigSep_insert' (by decide), bigSep_singleton]

/-! ## The launch's ghost state -/

theorem pin_inj : Function.Injective (Pipeline.cellOf (nD := nD) (τ := τ) (Pipeline.pin (pcfgs (F := F)) adm)) := cellOf_inj

/-- The handshakes' rounds, the TensorCore call's rounds, and no counter yet. -/
def u₀ : UU :=
  (initOf (K (F := F)).hsCells (K (F := F)).hsToks,
    (initOf (Pipeline.cells (Pipeline.pin (pcfgs (F := F)) adm) pin_inj) (Pipeline.launchToks (Pipeline.pin (pcfgs (F := F)) adm) pin_inj), 1))

/-- What the device's TensorCore receives at the launch for its call. -/
abbrev ghost (d : Dev nD) : sProp 𝕄 :=
  iprop(Pipeline.cellsGhost (Pipeline.pin (pcfgs (F := F)) adm) EP 0 d ∗ Pipeline.toksInit (Pipeline.pin (pcfgs (F := F)) adm) EP 0 d)

theorem ghost_all :
    (iprop((bigSep Finset.univ fun c : Dev nD => bigSep Finset.univ fun p : Fin 1 => Pipeline.cellsGhost (Pipeline.pin (pcfgs (F := F)) adm) EP p c)
      ∗ (bigSep Finset.univ fun c : Dev nD => bigSep Finset.univ fun p : Fin 1 => Pipeline.toksInit (Pipeline.pin (pcfgs (F := F)) adm) EP p c)) : sProp 𝕄)
      = bigSep Finset.univ fun d : Dev nD => ghost (F := F) d := by
  unfold ghost
  rw [bigSep_sep']
  congr 1 <;> refine bigSep_congr fun d _ => bigSep_univ_of_subsingleton (0 : Fin 1)

theorem launch_ghost (X : Dev nD → S2048x384.Idx → F .f32) (R : Dev nD → S2048x2048.Idx → BitVec 32) (O : Dev nD → S12x2048x2048.Idx → F .f32) :
    (ownU (u₀ (F := F)) : sProp 𝕄)
      ⊢ |={Set.univ}=> iprop(BI.own (EH (initOf (K (F := F)).hsCells (K (F := F)).hsToks)) ∗ (bigSep Finset.univ fun d : Dev nD => ghost (F := F) d)
        ∗ bigSep Finset.univ fun thr : Thread nD τ => bigSep Finset.univ fun q : Fin 1 => (P X R O).x q thr) := by
  unfold u₀
  iintro Hu
  ihave H := (ownU_pair (initOf (K (F := F)).hsCells (K (F := F)).hsToks)
    ((initOf (Pipeline.cells (Pipeline.pin (pcfgs (F := F)) adm) pin_inj) (Pipeline.launchToks (Pipeline.pin (pcfgs (F := F)) adm) pin_inj), (1 : Counters)))) $$ Hu
  icases H with ⟨HH, HR⟩
  ihave H := (own_pair_emb embR (initOf (Pipeline.cells (Pipeline.pin (pcfgs (F := F)) adm) pin_inj) (Pipeline.launchToks (Pipeline.pin (pcfgs (F := F)) adm) pin_inj)) (1 : Counters)) $$ HR
  icases H with ⟨HR, -⟩
  ihave H := (Pipeline.fund_ghost (Pipeline.pin (pcfgs (F := F)) adm) EP pin_inj) $$ HR
  imod H
  imodintro
  isplitl [HH]; · iexact HH
  isplitl [H]; · iapply (Entails.of_eq (ghost_all (F := F))); iexact H
  rw [show (bigSep Finset.univ fun thr : Thread nD τ => bigSep Finset.univ fun q : Fin 1 => (P (F := F) X R O).x q thr) = bigSep Finset.univ fun _ => iprop(emp) from
    bigSep_congr fun _ _ => bigSep_univ_of_subsingleton (0 : Fin 1)]
  iapply (Entails.of_eq (bigSep_emp_const (Finset.univ : Finset (Thread nD τ))).symm)
  iempintro

/-! ## The program on the device's TensorCore -/

section Main

variable (m : (ℓ : Loc nD τ sig) → Buf (Elt F) ℓ) (ρ : Dev nD → PrngReg)

/-- The call's exchange, at the contents the program brings to it. -/
abbrev PM : (K (F := F)).Pay (nD := nD) (Val := Elt F) (Name := ℕ) (U := UU) := P (tableOf m) (posOf m) (resBefore m)

theorem st_eq (d : Dev nD) :
    (bigSep Finset.univ fun c : Fin ((K (F := F)).nCore 0) => (PM m).st 0 d c)
      = iprop((xAt d ↦{fullShare} tableOf m d) ∗ (rAt d ↦{fullShare} posOf m d) ∗ (oAt d ↦{fullShare} resBefore m d)) := by
  rw [whole_eq]
  exact bigSep_fin_two (fun c : Fin 2 => corePart (tableOf m d) (posOf m d) (resBefore m d) d c)

theorem dn_eq (d : Dev nD) :
    (bigSep Finset.univ fun c : Fin ((K (F := F)).nCore 0) => (PM m).dn 0 d c)
      = iprop((xAt d ↦{fullShare} tableOf m d) ∗ (rAt d ↦{fullShare} posOf m d) ∗ (oAt d ↦{fullShare} G (tableOf m d) (posOf m d))) := by
  rw [whole_eq]
  exact bigSep_fin_two (fun c : Fin 2 => corePart (tableOf m d) (posOf m d) (G (tableOf m d) (posOf m d)) d c)

theorem gathered_rest (d : Dev nD) :
    (StableHlo.held (SparseCore.T d) (Pipeline.ucRefs τ sig \ callRefs) (valCall m d) : sProp 𝕄)
      = StableHlo.held (SparseCore.T d) (Pipeline.ucRefs τ sig \ callRefs) (valGathered m d) := by
  refine StableHlo.held_congr (SparseCore.T d) fun b hb => ?_
  refine (Function.update_of_ne (fun h => ?_) _ _).symm
  subst h
  exact (Finset.mem_sdiff.mp hb).2 (by decide)

theorem gathered_v7 (d : Dev nD) : valGathered m d main_v7 = tableOf m d :=
  Function.update_of_ne (show (main_v7 : DevRef τ sig) ≠ (main_v9 : DevRef τ sig) by decide) _ _
theorem gathered_v8 (d : Dev nD) : valGathered m d main_v8 = posOf m d :=
  Function.update_of_ne (show (main_v8 : DevRef τ sig) ≠ (main_v9 : DevRef τ sig) by decide) _ _
theorem gathered_v9 (d : Dev nD) : valGathered m d main_v9 = G (tableOf m d) (posOf m d) := Function.update_self ..

/-- What the call gives back, with the buffers it was not given, is every buffer after it. -/
theorem held_gathered (d : Dev nD) :
    (StableHlo.held (SparseCore.T d) (Pipeline.ucRefs τ sig) (valGathered m d) : sProp 𝕄)
      = iprop(((xAt d ↦{fullShare} tableOf m d) ∗ (rAt d ↦{fullShare} posOf m d) ∗ (oAt d ↦{fullShare} G (tableOf m d) (posOf m d)))
          ∗ StableHlo.held (SparseCore.T d) (Pipeline.ucRefs τ sig \ callRefs) (valCall m d)) := by
  rw [held_call, gathered_v7, gathered_v8, gathered_v9, gathered_rest]

/-- The handshakes' state without what is owed. -/
abbrev hsRest (d : Dev nD) : sProp 𝕄 :=
  iprop(atPos EH ((K (F := F)).doneCell d) 0 ∅ 0 ∗ reached EH ((K (F := F)).doneCell d) 0
    ∗ (bigSep Finset.univ fun c : Fin τ.nSC => reached EH ((K (F := F)).startCell d c) ((K (F := F)).sRank c 0))
    ∗ bigSep (SparseCore.Cfg.callsFrom 0) fun q : Fin 1 => bigSep Finset.univ fun c : Fin ((K (F := F)).nCore q) =>
        iprop(dutyTok EH ((K (F := F)).startCell d ((K (F := F)).core q c)) ((K (F := F)).sRank ((K (F := F)).core q c) q.val) 0
          ∗ cred (tallyAt ((K (F := F)).doneCell d) (some (SparseCore.Cfg.Blocks.last (N := 1) q)) 1)))

theorem tcSt_open (d : Dev nD) : ((K (F := F)).tcSt EH d 0 : sProp 𝕄) = iprop(owing d ∗ hsRest d) := rfl

/-- What the program's thread ends with, for the claims: every buffer outside the calls' own at its final contents. -/
abbrev FIN (d : Dev nD) : sProp 𝕄 := StableHlo.held (SparseCore.T d) (Pipeline.ucRefs τ sig) (valEnd m d)

theorem tcRes_eq (d : Dev nD) :
    ((K (F := F)).tcRes m ρ d : sProp 𝕄)
      = iprop(boundary (SparseCore.T d) ∗ StableHlo.held (SparseCore.T d) (Pipeline.ucRefs τ sig) (fun b => m (d, b))
          ∗ (K (F := F)).tcSems0 d ∗ prngReg d (ρ d)) := by
  rw [← Pipeline.unscopedBufs_held d (fun b => m (d, b))]; rfl

/-- The last reshape. -/
theorem tailOut_wp (d : Dev nD) (V : Valuation τ sig (Elt F)) (Q : PUnit → sProp 𝕄) :
    (iprop(boundary (SparseCore.T d) ∗ StableHlo.held (SparseCore.T d) (Pipeline.ucRefs τ sig) V
        ∗ ((boundary (SparseCore.T d) ∗ StableHlo.held (SparseCore.T d) (Pipeline.ucRefs τ sig) ((opOut (F := F)).result V)) -∗ Q ⟨⟩)) : sProp 𝕄)
      ⊢ wp frame (wpE ((K (F := F)).defs (D (F := F))) 𝒱 (SparseCore.T d) none) Set.univ tailOut Q := by
  unfold tailOut
  iintro ⟨Hb, Hh, Hk⟩
  iapply (StableHlo.wp_seq 𝒱 none Set.univ d (Pipeline.ucRefs τ sig) (fun _ => pure ⟨⟩) [opOut (F := F)]
    (List.forall_mem_cons.mpr ⟨Pipeline.sub_ucRefs _ (StableHlo.reshape_bufs_sub ..), fun _ h => absurd h List.not_mem_nil⟩)
    (List.forall_mem_cons.mpr ⟨rfl, fun _ h => absurd h List.not_mem_nil⟩) V) $$ [Hb Hh]
  · isplitl [Hb]; · iexact Hb
    iexact Hh
  iintro H
  rw [wp_pure]; imodintro
  iapply Hk; iexact H

/-- The program on the device's TensorCore. -/
theorem hmain (κ : GSem nD τ sig → ℕ) (d : Dev nD) :
    iprop((K (F := F)).ctx EH (PM m) κ ∗ (K (F := F)).tcSt EH d 0 ∗ (K (F := F)).tcRes m ρ d ∗ ghost d)
      ⊢ wp frame (wpE ((K (F := F)).defs (D (F := F))) 𝒱 (SparseCore.T d) none) Set.univ (main d)
          fun _ => iprop((K (F := F)).tcSt EH d 1 ∗ FIN m d ∗ (K (F := F)).tcEnd d) := by
  rw [main_eq, tcRes_eq]
  iintro ⟨#Hctx, Hst, ⟨Hb, Hh, Hts, -⟩, Hg, Ht⟩
  ihave #Hlev := (SparseCore.Cfg.ctx_levAts κ) $$ Hctx
  iapply (StableHlo.wp_seq 𝒱 none Set.univ d (Pipeline.ucRefs τ sig) (fun _ => tailScores d) (opsIn (F := F))
    opsIn_sub opsIn_fresh (fun b => m (d, b))) $$ [Hb Hh]
  · isplitl [Hb]; · iexact Hb
    iexact Hh
  iintro ⟨Hb, Hh⟩
  -- the TensorCore's call
  unfold tailScores
  rw [wp_bind]
  ihave Hst' := (Entails.of_eq (tcSt_open (F := F) d)) $$ Hst
  icases Hst' with ⟨HO, Hhs⟩
  iapply (scores_wp d (valIn m d) _) $$ [Hb Hh HO Hg Ht Hhs Hts]
  isplitr; · iexact Hlev
  isplitl [Hb]; · iexact Hb
  isplitl [Hh]; · iexact Hh
  isplitl [HO]; · iexact HO
  isplitl [Hg]; · iexact Hg
  isplitl [Ht]; · iexact Ht
  iintro ⟨Hb, Hh, HO⟩
  -- the reshape of the positions
  unfold tailPos
  iapply (StableHlo.wp_seq 𝒱 none Set.univ d (Pipeline.ucRefs τ sig) (fun _ => tailCall d) [opPos (F := F)]
    (List.forall_mem_cons.mpr ⟨Pipeline.sub_ucRefs _ (StableHlo.reshape_bufs_sub ..), fun _ h => absurd h List.not_mem_nil⟩)
    (List.forall_mem_cons.mpr ⟨rfl, fun _ h => absurd h List.not_mem_nil⟩) (scored (valIn m d))) $$ [Hb Hh]
  · isplitl [Hb]; · iexact Hb
    iexact Hh
  iintro ⟨Hb, Hh⟩
  -- the SparseCore call
  ihave Hh := (Entails.of_eq (show (StableHlo.held (SparseCore.T d) (Pipeline.ucRefs τ sig) (StableHlo.after [opPos (F := F)] (scored (valIn m d))) : sProp 𝕄)
    = StableHlo.held (SparseCore.T d) (Pipeline.ucRefs τ sig) (valCall m d) from rfl)) $$ Hh
  ihave Hh' := (Entails.of_eq (held_call (F := F) d (valCall m d))) $$ Hh
  icases Hh' with ⟨Hcall, Hrest⟩
  unfold tailCall
  rw [wp_bind]
  iapply ((K (F := F)).wp_run (D (F := F)) 𝒱 (EH := EH) (P := PM m) κ d 0) $$ [HO Hhs Hcall Hrest Hb Hts]
  isplitr; · iexact Hctx
  isplitl [HO Hhs]
  · iapply (Entails.of_eq (tcSt_open (F := F) d).symm)
    isplitl [HO]; · iexact HO
    iexact Hhs
  isplitl [Hcall]
  · iapply (Entails.of_eq (st_eq m d).symm); iexact Hcall
  iintro ⟨Hst, Hdn⟩
  ihave Hdn' := (Entails.of_eq (dn_eq m d)) $$ Hdn
  -- the last reshape
  iapply (tailOut_wp d (valGathered m d) _)
  isplitl [Hb]; · iexact Hb
  isplitl [Hdn' Hrest]
  · iapply (Entails.of_eq (held_gathered m d).symm)
    isplitl [Hdn']; · iexact Hdn'
    iexact Hrest
  iintro ⟨Hb, Hh⟩
  isplitl [Hst]; · iexact Hst
  isplitl [Hh]; · iexact Hh
  unfold SparseCore.Cfg.tcEnd
  isplitl [Hb]; · iexact Hb
  iexact Hts

/-- What is read of the final memory. -/
def finals (d : Dev nD) (s' : Phys nD τ sig (Elt F)) : Prop := ∀ b ∈ Pipeline.ucRefs τ sig, s'.mem.mem (d, b) = valEnd m d b

theorem hfin (d : Dev nD) (s' : Phys nD τ sig (Elt F)) : iprop(FIN m d ∗ SI s') ⊢ (⌜finals m d s'⌝ : sProp 𝕄) := by
  unfold FIN StableHlo.held
  iintro ⟨H, HSI⟩
  ihave %h := (SI_pointsTo_bufs_agree (qs := fun _ => fullShare) (Pipeline.ucRefs τ sig)) $$ [HSI H]
  · isplitl [HSI]; · iexact HSI
    iexact H
  ipureintro
  exact h

/-- The memory at the end, and every semaphore at zero. -/
def QC : PUnit × MemSt nD τ sig (Elt F) → Prop := fun r =>
  (∀ c : Dev nD, ∀ b ∈ Pipeline.ucRefs τ sig, r.2.mem (c, b) = valEnd m c b) ∧ r.2.sem = fun _ => 0

theorem run_main [∀ e, Nonempty (Elt F e)] (hR : ∀ d x, (posOf m d x).toNat < 32) :
    θ_run (Cert.KernelIdeal.defs (F := F)) (Cert.KernelIdeal.threads (F := F)) ⟨m, fun _ => 0, ρ⟩ (QC m) :=
  SparseCore.Cfg.θ_run_sc_quiescent (K := K (F := F)) (D := D (F := F)) (𝒱 := 𝒱) (EH := EH) (P := PM m) (A := ∅) facts v₀
    (fun q hq => match q with | 0 => nomatch hq)
    (fun q _ => match q with | 0 => tileObl (tableOf m) (posOf m) (resBefore m) hR)
    (fun q _ => match q with | 0 => SparseCore.Cfg.VecSplit.of_plain (vecSplit (tableOf m) (posOf m) (resBefore m)))
    m ρ main (fun d => ghost d) (FIN m) (u₀ (F := F)) (sep_elim_left.trans (launch_ghost (tableOf m) (posOf m) (resBefore m)))
    (hmain m ρ) (finals m) (hfin m) (QC m) (fun _ h hz => ⟨fun c b hb => h c b hb, hz⟩)

end Main

end Cert.Proof.Kern

end
-- ==== Proof.Contents.lean ====
module

public import proofs.«01_k».proof.Proof.Host
public import proofs.«01_k».proof.Pre_in_table
public import proofs.«01_k».proof.Proof.Gen.Pre_in_table
public import Idealize.ShloMosaic.Lib.ReduceAll

/-!
# What the whole program leaves, of its arguments alone

The three arguments end as they were; the result is the gathered table reshaped, the table being the scores of the
queries and of the prepared weights. The precondition bounds every relative position by the table's 22 rows.
-/

@[expose] public section

noncomputable section

namespace Cert.Proof.Kern

open Cert.KernelIdeal Cert.KernelIdeal.Gen
open Idealize.ShloMosaic
open Idealize.ShloMosaic.SparseCore (S V T)
open Idealize.ShloMosaic.SparseCore.Cfg (HIx Pay tileRest ownBufs ownSems0 ownCells ownRefs mem_ownCells mem_ownRefs)
open Idealize.ShloMosaic.ValueIdx
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type} [FloatOps F]

open Idealize.ShloMosaic.TcCoe

/-! ## The contents, of the launch memory -/

section Contents

variable (m : (ℓ : Loc nD τ sig) → Buf (Elt F) ℓ) (d : Dev nD)

/-- The weights with row 0 set to zero. -/
def weights : S22x768.Idx → F .f32 :=
  Host.scatter scatter_S22x768_S1_S768_0_0_0_0 (fun _ b => b) (m (d, (main_arg2 : DevRef τ sig))) (broadcastInDim S1 ![] bcast_S_S1 (constantI S_ 32 0#32))
    (broadcastInDim S768 ![] bcast_S_S768 (constant S_ .f32 0x00000000#32))
/-- The same by head, feature and position, with ten columns more. -/
def padded (W : S22x768.Idx → F .f32) : S12x64x32.Idx → F .f32 :=
  pad S12x64x32 ![0, 0, 0] ![0, 0, 10] ![0, 0, 0] (transpose S12x64x22 [1, 2, 0] (shapeCast S22x12x64 W shapeCasts_S22x768_S22x12x64)
    transposes_S22x12x64_S12x64x22_1_2_0) (sitofp .f32 (constantI S_ 32 0#32)) pads_S12x64x22_S12x64x32_000_000_0100 h_S_

theorem valIn_arg0 : valIn m d main_arg0 = m (d, (main_arg0 : DevRef τ sig)) := by
  unfold valIn opsIn
  simp only [StableHlo.TRef.binary, StableHlo.TRef.unary, StableHlo.TRef.toBuf, StableHlo.TRef.ofBuf, cast_eq]
  after_results_simp <;> rfl
theorem valIn_arg1 : valIn m d main_arg1 = m (d, (main_arg1 : DevRef τ sig)) := by
  unfold valIn opsIn
  simp only [StableHlo.TRef.binary, StableHlo.TRef.unary, StableHlo.TRef.toBuf, StableHlo.TRef.ofBuf, cast_eq]
  after_results_simp <;> rfl
theorem valIn_arg2 : valIn m d main_arg2 = m (d, (main_arg2 : DevRef τ sig)) := by
  unfold valIn opsIn
  simp only [StableHlo.TRef.binary, StableHlo.TRef.unary, StableHlo.TRef.toBuf, StableHlo.TRef.ofBuf, cast_eq]
  after_results_simp <;> rfl
theorem valIn_v6 : valIn m d main_v6 = shapeCast S12x2048x64 (m (d, (main_arg0 : DevRef τ sig))) shapeCasts_S1x12x2048x64_S12x2048x64 := by
  unfold valIn opsIn
  simp only [StableHlo.TRef.binary, StableHlo.TRef.unary, StableHlo.TRef.toBuf, StableHlo.TRef.ofBuf, cast_eq]
  after_results_simp <;> rfl
theorem valIn_v5 : valIn m d main_v5 = padded (weights m d) := by
  unfold valIn opsIn
  simp only [StableHlo.TRef.binary, StableHlo.TRef.unary, StableHlo.TRef.toBuf, StableHlo.TRef.ofBuf, cast_eq]
  after_results_simp <;> rfl

/-- A buffer that no operation from the TensorCore's call on writes ends as it was then. -/
theorem valEnd_of_unwritten (b : Ref sig .tc) (h7 : b ≠ main_v7) (h8 : b ≠ main_v8) (h9 : b ≠ main_v9) (h10 : b ≠ main_v10) :
    valEnd m d b = valIn m d b := by
  have ne : ∀ b' : Ref sig .tc, b ≠ b' → (b : DevRef τ sig) ≠ (b' : DevRef τ sig) := fun _ h e => h (Proc.devRef_injective _ e)
  unfold valEnd opOut
  rw [StableHlo.reshape_result_ne' _ _ _ _ _ h10]
  unfold valGathered
  rw [Function.update_of_ne (ne _ h9)]
  unfold valCall opPos
  rw [StableHlo.reshape_result_ne' _ _ _ _ _ h8, scored_ne _ (ne _ h7)]

theorem valEnd_arg0 : valEnd m d main_arg0 = m (d, (main_arg0 : DevRef τ sig)) :=
  (valEnd_of_unwritten m d main_arg0 (by decide) (by decide) (by decide) (by decide)).trans (valIn_arg0 m d)
theorem valEnd_arg1 : valEnd m d main_arg1 = m (d, (main_arg1 : DevRef τ sig)) :=
  (valEnd_of_unwritten m d main_arg1 (by decide) (by decide) (by decide) (by decide)).trans (valIn_arg1 m d)
theorem valEnd_arg2 : valEnd m d main_arg2 = m (d, (main_arg2 : DevRef τ sig)) :=
  (valEnd_of_unwritten m d main_arg2 (by decide) (by decide) (by decide) (by decide)).trans (valIn_arg2 m d)

theorem posOf_eq : posOf m d = shapeCast S2048x2048 (m (d, (main_arg1 : DevRef τ sig))) shapeCasts_S1x2048x2048x1_S2048x2048 := by
  unfold posOf valCall opPos
  rw [StableHlo.reshape_result', scored_ne _ (by decide), valIn_arg1]
  rfl

theorem tableOf_eq : tableOf m d = score (shapeCast S12x2048x64 (m (d, (main_arg0 : DevRef τ sig))) shapeCasts_S1x12x2048x64_S12x2048x64) (padded (weights m d)) := by
  unfold tableOf valCall opPos
  rw [StableHlo.reshape_result_ne' _ _ _ _ _ (by decide), scored_v7, valIn_v6, valIn_v5]

theorem valEnd_v10 : valEnd m d main_v10 = shapeCast S1x12x2048x2048 (G (tableOf m d) (posOf m d)) shapeCasts_S12x2048x2048_S1x12x2048x2048 := by
  unfold valEnd opOut
  rw [StableHlo.reshape_result', gathered_v9]
  rfl

end Contents

/-! ## The precondition, read -/

/-- Under the precondition every relative position is below 22. -/
theorem pos_lt (a0 : FVec F Cert.Pre_in_table.S1x12x2048x64 .f32) (a1 : IVec Cert.Pre_in_table.S1x2048x2048x1 32)
    (a2 : FVec F Cert.Pre_in_table.S22x768 .f32) (h : Cert.Pre_in_table.fn a0 a1 a2 = fun _ => 1#1)
    (i : Cert.Pre_in_table.S1x2048x2048x1.Idx) : (a1 i).toNat < 22 := by
  haveI : Subsingleton Cert.Pre_in_table.S_.Idx := ⟨fun a b => funext fun x => x.elim0⟩
  have e := Host.reduce_andi_all _ _ _ _ (fun x => x.elim0) (congrFun h fun x => x.elim0) i
  obtain ⟨h0, h1⟩ := IntOp.andi_eq_one.1 e
  have h0 := IntOp.cmpi_sge.1 h0
  have h1 := IntOp.cmpi_slt.1 h1
  have e0 : (0#32 : BitVec 32).toInt ≤ (a1 i).toInt := h0
  have e1 : (a1 i).toInt < (22#32 : BitVec 32).toInt := h1
  rw [show (0#32 : BitVec 32).toInt = 0 from by decide] at e0
  rw [show (22#32 : BitVec 32).toInt = 22 from by decide] at e1
  rw [BitVec.toInt_eq_toNat_cond] at e0 e1
  split at e0 <;> omega

end Cert.Proof.Kern

end
-- ==== Proof.Reference.lean ====
module

public import proofs.«01_k».proof.Proof.Gen.ReferenceIdeal.Run

/-!
# The reference's result in parts
-/

@[expose] public section

noncomputable section

namespace Cert.Proof.Ref

open Idealize.ShloMosaic Idealize.SL.Sem
open Cert.ReferenceIdeal Cert.ReferenceIdeal.Gen

variable {F : FTy → Type} [FloatOps F]

/-- The positions, one copy for each head; -/
def spread (p : IVec S1x2048x2048x1 32) : IVec S1x12x2048x2048 32 :=
  broadcastInDim S1x12x2048x2048 ![0, 1, 2, 3] bcast_S1x1x2048x2048_S1x12x2048x2048_0_1_2_3
    (broadcastInDim S1x1x2048x2048 ![0, 2, 3] bcast_S1x2048x2048_S1x1x2048x2048_0_2_3 (shapeCast _ p shapeCasts_S1x2048x2048x1_S1x2048x2048))
/-- a negative one counted from the end; -/
def wrapped (p : IVec S1x2048x2048x1 32) : IVec S12x2048x2048x1 32 :=
  shapeCast _ (select (cmpi .slt (spread p) (broadcastInDim S1x12x2048x2048 ![] bcast_S_S1x12x2048x2048 (constantI S_ 32 0#32)))
    (addi (spread p) (broadcastInDim S1x12x2048x2048 ![] bcast_S_S1x12x2048x2048 (constantI S_ 32 22#32))) (spread p)) shapeCasts_S1x12x2048x2048_S12x2048x2048x1
/-- whether each is one of the 22 rows'. -/
def inside (P : IVec S12x2048x2048x1 32) : IVec S12x2048x2048x1 1 :=
  andi (cmpi .sge P (broadcastInDim S12x2048x2048x1 ![] bcast_S_S12x2048x2048x1 (constantI S_ 32 0#32)))
    (cmpi .sle P (broadcastInDim S12x2048x2048x1 ![0, 1, 2, 3] bcast_S1x1x1x1_S12x2048x2048x1_0_1_2_3 (broadcastInDim S1x1x1x1 ![3] bcast_S1_S1x1x1x1_3 (constantI S1 32 21#32))))
/-- The scores: of each query with each of the 22 rows, by head. -/
def scores (W : FVec F S22x768 .f32) (q : FVec F S1x12x2048x64 .f32) : FVec F S1x12x2048x22 .f32 :=
  transpose S1x12x2048x22 [2, 0, 3, 1] (Host.dotGeneral dot_S22x12x64_S1x12x2048x64_S12x22x1x2048_2_3_0_02_1_1 none
    (shapeCast _ W shapeCasts_S22x768_S22x12x64) q) transposes_S12x22x1x2048_S1x12x2048x22_2_0_3_1
/-- The scores picked by position. -/
def picked (W : FVec F S22x768 .f32) (q : FVec F S1x12x2048x64 .f32) (p : IVec S1x2048x2048x1 32) : FVec F S1x12x2048x2048 .f32 :=
  select (broadcastInDim S1x12x2048x2048 ![1, 2, 3] bcast_S12x2048x2048_S1x12x2048x2048_1_2_3
      (Host.reduce IntOp.andi (inside (wrapped p)) (constantI S_ 1 1#1) reducesTo_S12x2048x2048x1_S12x2048x2048_d3 h_S_))
    (Host.gather gather_S1x12x2048x22_S12x2048x2048x1_S1x12x2048x2048_0_3_12_01_3_3_1111 (scores W q) (wrapped p))
    (broadcastInDim S1x12x2048x2048 ![] bcast_S_S1x12x2048x2048 (constant S_ .f32 0x7FC00000#32))
/-- The weights with row 0 set to zero. -/
def weights (w : FVec F S22x768 .f32) : FVec F S22x768 .f32 :=
  Host.scatter scatter_S22x768_S1_S768_0_0_0_0 (fun _ b => b) w (broadcastInDim S1 ![] bcast_S_S1 (constantI S_ 32 0#32))
    (broadcastInDim S768 ![] bcast_S_S768 (constant S_ .f32 0x00000000#32))

theorem res_eq (m : (ℓ : Loc nD τ sig) → Buf (Elt F) ℓ) (c : Dev nD) :
    Value.res_main_v9 m c = picked (weights (m ((c.tc : Thread nD τ).loc main_arg2))) (m ((c.tc : Thread nD τ).loc main_arg0)) (m ((c.tc : Thread nD τ).loc main_arg1)) := rfl

end Cert.Proof.Ref

end
-- ==== Proof.Value.lean ====
module

public import proofs.«01_k».proof.Proof.Contents
public import proofs.«01_k».proof.Proof.Reference
public import Idealize.ShloMosaic.Lib.Pointwise
public import Idealize.ShloMosaic.Lib.Pointwise.IndexBridge

/-!
# Over the extended reals, the result is the reference's

Entry (h, q, k) of either is the sum over the 64 features of query (h, q) times the weights' row named by the relative
position of (q, k).
-/

@[expose] public section

noncomputable section

namespace Cert.Proof.Kern

open Idealize.ShloMosaic Idealize.SL.Sem
open Cert.KernelIdeal Cert.KernelIdeal.Gen

/-! ## The table of scores -/

/-- A head's product at an entry. -/
theorem head_apply (Q : S12x2048x64.Idx → Ideal .f32) (W : S12x64x32.Idx → Ideal .f32) (h : Fin 12) (n : Fin 32) (r : Fin 2048) :
    (k0_pay2 (qHead Q h.val) (wHead W h.val) : FVec Ideal S2048x32 .f32) (ix2 r n) = ∑ k : Fin 64, Q (ix3 h r k) * W (ix3 h k n) := by
  have hh : (Fin.ofNat 12 h.val : Fin 12) = h := Fin.ext (Nat.mod_eq_of_lt h.isLt)
  have eq : (qHead Q h.val : Vec Ideal S1x2048x64 .f32) = fun x => Q (ix3 h (x 1) (x 2)) := by
    funext x; unfold qHead; rw [hh]; exact congrArg Q (ix3_eq_valueIdx (n0 := 12) (n1 := 2048) (n2 := 64) h (x 1) (x 2)).symm
  have ew : (wHead W h.val : Vec Ideal S1x64x32 .f32) = fun x => W (ix3 h (x 1) (x 2)) := by
    funext x; unfold wHead; rw [hh]; exact congrArg W (ix3_eq_valueIdx (n0 := 12) (n1 := 64) (n2 := 32) h (x 1) (x 2)).symm
  rw [eq, ew]
  pointwise! [k0_pay2]

/-- Entry `32 h + n` of a row of the table is the row's query of head `h` times column `n` of that head's weights. -/
theorem score_apply (Q : S12x2048x64.Idx → Ideal .f32) (W : S12x64x32.Idx → Ideal .f32) (h : Fin 12) (n : Fin 32) (r : Fin 2048) :
    score Q W (ix2 r (⟨32 * h.val + n.val, by omega⟩ : Fin 384)) = ∑ k : Fin 64, Q (ix3 h r k) * W (ix3 h k n) := by
  rw [← head_apply]
  refine (show score Q W = concatenate S2048x384 1
      (List.ofFn fun p : Fin 12 => (⟨S2048x32, k0_pay2 (qHead Q p.val) (wHead W p.val)⟩ : (s : Shape) × (s.Idx → Ideal .f32)))
      concatenates_S2048x32_S2048x32_S2048x32_S2048x32_S2048x32_S2048x32_S2048x32_S2048x32_S2048x32_S2048x32_S2048x32_S2048x32_S2048x384_d1
      from rfl) ▸ ?_
  refine concatenate_ofFn_apply (t := S2048x384) (s₁ := S2048x32) 1 (fun p : Fin 12 => k0_pay2 (qHead Q p.val) (wHead W p.val)) _ rfl 32 rfl _ h ?_ (ix2 r n) ?_ ?_
  · show (32 * h.val + n.val) / 32 = h.val
    omega
  · show n.val = (32 * h.val + n.val) % 32
    omega
  · intro b hb
    match b with
    | ⟨0, _⟩ => rfl
    | ⟨1, _⟩ => exact absurd rfl hb

/-- The prepared weights at a column of the table. -/
theorem padded_apply (W : S22x768.Idx → Ideal .f32) (h : Fin 12) (k : Fin 64) (n : Fin 22) :
    padded W (ix3 h k (⟨n.val, by omega⟩ : Fin 32)) = W (ix2 n (⟨h.val * 64 + k.val, by omega⟩ : Fin 768)) := by
  pointwise! [padded]

end Cert.Proof.Kern

/-! ## The reference's result at an entry -/

namespace Cert.Proof.Ref

open Idealize.ShloMosaic Idealize.SL.Sem
open Cert.ReferenceIdeal Cert.ReferenceIdeal.Gen

theorem scores_apply (W : S22x768.Idx → Ideal .f32) (q : S1x12x2048x64.Idx → Ideal .f32) (h : Fin 12) (r : Fin 2048) (n : Fin 22) :
    scores W q (ix4 0 h r n) = ∑ k : Fin 64, q (ix4 0 h r k) * W (ix2 n (⟨h.val * 64 + k.val, by omega⟩ : Fin 768)) := by
  pointwise! [scores]

theorem spread_apply (p : IVec S1x2048x2048x1 32) (h : Fin 12) (r k : Fin 2048) : spread p (ix4 0 h r k) = p (ix4 0 r k 0) := by
  pointwise! [spread]

/-- A word below 22 is not negative, and at most 21. -/
theorem word_facts (w : BitVec 32) (hw : w.toNat < 22) :
    IntOp.cmpi .slt w 0#32 = 0#1 ∧ IntOp.cmpi .sge w 0#32 = 1#1 ∧ IntOp.cmpi .sle w 21#32 = 1#1 ∧ w.toInt = (w.toNat : ℤ) := by
  have hi : w.toInt = (w.toNat : ℤ) := by rw [BitVec.toInt_eq_toNat_cond, if_pos (by omega)]
  have h0 : (0#32 : BitVec 32).toInt = 0 := by decide
  have h21 : (21#32 : BitVec 32).toInt = 21 := by decide
  refine ⟨ValueIdx.eq_zero_of_ne_one fun e => ?_, IntOp.cmpi_sge.2 ?_, IntOp.cmpi_sle.2 ?_, hi⟩
  · have := IntOp.cmpi_slt.1 e
    omega
  · omega
  · omega

/-- A position below 22 is left as it is, -/
theorem wrapped_apply (p : IVec S1x2048x2048x1 32) (h : Fin 12) (r k : Fin 2048) (hp : (p (ix4 0 r k 0)).toNat < 22) :
    wrapped p (ix4 h r k 0) = p (ix4 0 r k 0) := by
  pointwise [wrapped, spread]
  rw [(word_facts _ hp).1, ValueIdx.select_zero]

/-- and is one of the rows'. -/
theorem inside_apply (p : IVec S1x2048x2048x1 32) (hp : ∀ i, (p i).toNat < 22) (i : S12x2048x2048x1.Idx) : inside (wrapped p) i = 1#1 := by
  obtain ⟨h, r, k, e, rfl⟩ : ∃ (h : Fin 12) (r k : Fin 2048) (e : Fin 1), i = ix4 h r k e := ⟨i 0, i 1, i 2, i 3, eq_ix4 i⟩
  obtain rfl : e = 0 := Subsingleton.elim _ _
  refine IntOp.andi_eq_one.2 ⟨?_, ?_⟩
  · show IntOp.cmpi .sge (wrapped p (ix4 h r k 0)) 0#32 = 1#1
    rw [wrapped_apply p h r k (hp _)]
    exact (word_facts _ (hp _)).2.1
  · show IntOp.cmpi .sle (wrapped p (ix4 h r k 0)) 21#32 = 1#1
    rw [wrapped_apply p h r k (hp _)]
    exact (word_facts _ (hp _)).2.2.1

/-- The dimension numbers of the reference's gather. -/
abbrev pick : GatherDims S1x12x2048x22 S12x2048x2048x1 S1x12x2048x2048 := gather_S1x12x2048x22_S12x2048x2048x1_S1x12x2048x2048_0_3_12_01_3_3_1111

/-- The batched gather along the last axis at an entry: the row's word, read signed and clamped. -/
theorem gather_apply {α : Type} (x : S1x12x2048x22.Idx → α) (P : IVec S12x2048x2048x1 32) (h : Fin 12) (r k : Fin 2048) (n : Fin 22)
    (hn : min (P (ix4 h r k 0)).toInt.toNat 21 = n.val) :
    Host.gather pick x P (ix4 0 h r k) = x (ix4 0 h r n) := by
  have e : ∀ a, (pick.operandIdx (ix4 0 h r k) P a).val = pick.start (ix4 0 h r k) P a + pick.batchCoord (ix4 0 h r k) a + pick.offCoord (ix4 0 h r k) a :=
    fun _ => rfl
  refine congrArg x (funext fun a => Fin.ext ((e a).trans ?_))
  match a with
  | ⟨0, _⟩ => rfl
  | ⟨1, _⟩ => exact Nat.zero_add h.val
  | ⟨2, _⟩ => exact Nat.zero_add r.val
  | ⟨3, _⟩ =>
    have hs : pick.siIdx (ix4 0 h r k) ⟨0, Nat.one_pos⟩ = ix4 h r k 0 := by
      funext b
      match b with
      | ⟨0, _⟩ => rfl
      | ⟨1, _⟩ => rfl
      | ⟨2, _⟩ => rfl
      | ⟨3, _⟩ => rfl
    have e3 : pick.start (ix4 0 h r k) P 3 = min (P (pick.siIdx (ix4 0 h r k) ⟨0, Nat.one_pos⟩)).toInt.toNat 21 := rfl
    rw [hs, hn] at e3
    exact e3

/-- Entry (h, r, k) of the reference's result: the scores' entry that the position of (r, k) names. -/
theorem picked_apply (W : FVec Ideal S22x768 .f32) (q : FVec Ideal S1x12x2048x64 .f32) (p : IVec S1x2048x2048x1 32) (hp : ∀ i, (p i).toNat < 22)
    (h : Fin 12) (r k : Fin 2048) :
    picked W q p (ix4 0 h r k) = scores W q (ix4 0 h r ⟨(p (ix4 0 r k 0)).toNat, hp _⟩) := by
  unfold picked
  rw [ValueIdx.select_apply, show broadcastInDim S1x12x2048x2048 ![1, 2, 3] bcast_S12x2048x2048_S1x12x2048x2048_1_2_3
      (Host.reduce IntOp.andi (inside (wrapped p)) (constantI S_ 1 1#1) reducesTo_S12x2048x2048x1_S12x2048x2048_d3 h_S_) (ix4 0 h r k) = 1#1 from
    Host.reduce_andi_one _ _ _ _ _ rfl (inside_apply p hp), ValueIdx.select_one]
  refine gather_apply _ _ h r k _ ?_
  rw [wrapped_apply p h r k (hp _), (word_facts _ (hp _)).2.2.2]
  have := hp (ix4 0 r k 0)
  show min _ 21 = (p (ix4 0 r k 0)).toNat
  omega

end Cert.Proof.Ref

namespace Cert.Proof.Kern

open Idealize.ShloMosaic Idealize.SL.Sem
open Cert.KernelIdeal Cert.KernelIdeal.Gen

/-- An entry of the gathered table, by its coordinates. -/
theorem G_apply (X : FVec Ideal S2048x384 .f32) (R : IVec S2048x2048 32) (h : Fin 12) (r k : Fin 2048) (n : Fin 32) (hn : (R (ix2 r k)).toNat = n.val) :
    G (F := Ideal) X R (ix3 h r k) = X (ix2 r (⟨32 * h.val + n.val, by omega⟩ : Fin 384)) := by
  have hr : (Fin.ofNat 2048 r.val : Fin 2048) = r := Fin.ext (Nat.mod_eq_of_lt r.isLt)
  have e : G (F := Ideal) X R (ix3 h r k)
      = X (ValueIdx.ix2 (Fin.ofNat 2048 r.val) (Fin.ofNat 384 (32 * h.val + (R (ValueIdx.ix2 (Fin.ofNat 2048 r.val) k)).toNat))) := rfl
  rw [e, hr, ← ix2_eq_valueIdx, ← ix2_eq_valueIdx, hn]
  exact congrArg (fun j => X (ix2 r j)) (Fin.ext (Nat.mod_eq_of_lt (by show 32 * h.val + n.val < 384; omega)))

/-- The kernel's result and the reference's are one function of the arguments, where the positions are below 22. -/
theorem result_eq (W : FVec Ideal S22x768 .f32) (q : FVec Ideal S1x12x2048x64 .f32) (p : IVec S1x2048x2048x1 32) (hp : ∀ i, (p i).toNat < 22) :
    shapeCast S1x12x2048x2048 (G (score (shapeCast S12x2048x64 q shapeCasts_S1x12x2048x64_S12x2048x64) (padded W))
      (shapeCast S2048x2048 p shapeCasts_S1x2048x2048x1_S2048x2048)) shapeCasts_S12x2048x2048_S1x12x2048x2048 = Ref.picked W q p := by
  funext i
  obtain ⟨e, h, r, k, rfl⟩ : ∃ (e : Fin 1) (h : Fin 12) (r k : Fin 2048), i = ix4 e h r k := ⟨i 0, i 1, i 2, i 3, eq_ix4 i⟩
  obtain rfl : e = 0 := Subsingleton.elim _ _
  rw [Ref.picked_apply W q p hp, Ref.scores_apply]
  have hp0 := hp (ix4 0 r k 0)
  have ei : shapeCast S1x12x2048x2048 (G (score (shapeCast S12x2048x64 q shapeCasts_S1x12x2048x64_S12x2048x64) (padded W))
      (shapeCast S2048x2048 p shapeCasts_S1x2048x2048x1_S2048x2048)) shapeCasts_S12x2048x2048_S1x12x2048x2048 (ix4 0 h r k)
      = G (score (shapeCast S12x2048x64 q shapeCasts_S1x12x2048x64_S12x2048x64) (padded W))
          (shapeCast S2048x2048 p shapeCasts_S1x2048x2048x1_S2048x2048) (ix3 h r k) := by pointwise
  have er : shapeCast S2048x2048 p shapeCasts_S1x2048x2048x1_S2048x2048 (ix2 r k) = p (ix4 0 r k 0) := by pointwise
  have eq : ∀ d : Fin 64, shapeCast S12x2048x64 q shapeCasts_S1x12x2048x64_S12x2048x64 (ix3 h r d) = q (ix4 0 h r d) := fun d => by pointwise
  rw [ei, G_apply _ _ h r k ⟨(p (ix4 0 r k 0)).toNat, by omega⟩ (congrArg BitVec.toNat er), score_apply]
  refine Finset.sum_congr rfl fun d _ => ?_
  rw [eq]
  exact congrArg (q (ix4 0 h r d) * ·) (padded_apply W h d ⟨(p (ix4 0 r k 0)).toNat, hp0⟩)

end Cert.Proof.Kern

end
-- ==== Proof.lean ====
/- The five claims about the program: the frames of the kernel over words and over the extended reals, the reference's
   frame, the idealization, and the equality of the two results over the extended reals. The kernel's run is stated once, over
   any float values (`Cert.Proof.Kern.run_main`); both of its frames and the equality are read from it. -/
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.ReferenceIdeal
public import proofs.«01_k».proof.Proof.Gen.ReferenceIdeal.Run
public import proofs.«01_k».proof.Proof.Gen.Pre_in_table
public import proofs.«01_k».proof.Proof.Value
public import Idealize.ShloMosaic.Lib.Quiescent
public import Idealize.ShloMosaic.Adequacy
public import Idealize.ShloMosaic.Init

@[expose] public section

noncomputable section

namespace Cert.Proof

open Idealize.ShloMosaic Idealize.SL.Sem
open Idealize.ShloMosaic.TcCoe

variable {F : FTy → Type} [FloatOps F]

/-! ## The kernel's run, read at its arguments and at its result -/

open Cert.KernelIdeal in
/-- Under the precondition every position fits the table's row of a head. -/
theorem pos_fits (m : (ℓ : Loc nD τ sig) → Buf (Elt F) ℓ)
    (hp : ∀ c : Dev nD, Cert.Pre_in_table.fn (F := F) (m ((c.tc : Thread nD τ).loc main_arg0)) (m ((c.tc : Thread nD τ).loc main_arg1))
      (m ((c.tc : Thread nD τ).loc main_arg2)) = fun _ => 1#1)
    (d : Dev nD) (x : S2048x2048.Idx) : (Kern.posOf m d x).toNat < 32 := by
  rw [Kern.posOf_eq]
  exact lt_trans (Kern.pos_lt _ _ _ (hp d) _) (by decide)

open Cert.KernelIdeal in
/-- The program's run: the arguments unchanged, the result the gathered table, every counter back at zero. -/
theorem kernel_run [∀ e, Nonempty (Elt F e)] (m : (ℓ : Loc nD τ sig) → Buf (Elt F) ℓ) (ρ : Dev nD → PrngReg)
    (hp : ∀ c : Dev nD, Cert.Pre_in_table.fn (F := F) (m ((c.tc : Thread nD τ).loc main_arg0)) (m ((c.tc : Thread nD τ).loc main_arg1))
      (m ((c.tc : Thread nD τ).loc main_arg2)) = fun _ => 1#1) :
    θ_run (Cert.KernelIdeal.defs (F := F)) (Cert.KernelIdeal.threads (F := F)) ⟨m, fun _ => 0, ρ⟩ fun r =>
      (∀ c : Dev nD, r.2.mem ((c.tc : Thread nD τ).loc main_v10) = Kern.valEnd m c main_v10
        ∧ r.2.mem ((c.tc : Thread nD τ).loc main_arg0) = m ((c.tc : Thread nD τ).loc main_arg0)
        ∧ r.2.mem ((c.tc : Thread nD τ).loc main_arg1) = m ((c.tc : Thread nD τ).loc main_arg1)
        ∧ r.2.mem ((c.tc : Thread nD τ).loc main_arg2) = m ((c.tc : Thread nD τ).loc main_arg2))
      ∧ r.2.sem = fun _ => 0 := by
  have hu : ∀ b : Ref sig .tc, b.isScoped = false → (b : DevRef τ sig) ∈ Pipeline.ucRefs τ sig := fun b hb => by
    unfold Pipeline.ucRefs
    exact Finset.mem_filter.mpr ⟨StableHlo.devRef_mem_tcRefs _, by simpa using hb⟩
  refine (θ_run Cert.KernelIdeal.defs _ _).mono (fun r h => ⟨fun c => ⟨?_, ?_, ?_, ?_⟩, h.2⟩) (Kern.run_main m ρ (pos_fits m hp))
  · exact h.1 c _ (hu main_v10 rfl)
  · exact (h.1 c _ (hu main_arg0 rfl)).trans (Kern.valEnd_arg0 m c)
  · exact (h.1 c _ (hu main_arg1 rfl)).trans (Kern.valEnd_arg1 m c)
  · exact (h.1 c _ (hu main_arg2 rfl)).trans (Kern.valEnd_arg2 m c)

/-! ## The claims -/

theorem frame_ideal : Cert.quiescent_KernelIdeal := fun m ρ hp =>
  (θ_run Cert.KernelIdeal.defs _ _).mono (fun _ h => ⟨fun c => (h.1 c).2, h.2⟩) (kernel_run (F := Ideal) m ρ hp)

open Cert.KernelIdeal in
/-- The same over words, of the idealized program's text, -/
theorem frame_words (m : (ℓ : Loc nD τ sig) → Buf (Elt Bits) ℓ) (ρ : Dev nD → PrngReg)
    (hp : ∀ c : Dev nD, Cert.Pre_in_table.fn (F := Bits) (m ((c.tc : Thread nD τ).loc main_arg0)) (m ((c.tc : Thread nD τ).loc main_arg1))
      (m ((c.tc : Thread nD τ).loc main_arg2)) = fun _ => 1#1) :
    θ_run (Cert.KernelIdeal.defs (F := Bits)) (Cert.KernelIdeal.threads (F := Bits)) ⟨m, fun _ => 0, ρ⟩ fun r =>
      (∀ c : Dev nD, r.2.mem ((c.tc : Thread nD τ).loc main_arg0) = m ((c.tc : Thread nD τ).loc main_arg0)
        ∧ r.2.mem ((c.tc : Thread nD τ).loc main_arg1) = m ((c.tc : Thread nD τ).loc main_arg1)
        ∧ r.2.mem ((c.tc : Thread nD τ).loc main_arg2) = m ((c.tc : Thread nD τ).loc main_arg2))
      ∧ r.2.sem = fun _ => 0 :=
  (θ_run Cert.KernelIdeal.defs _ _).mono (fun _ h => ⟨fun c => (h.1 c).2, h.2⟩) (kernel_run (F := Bits) m ρ hp)

/-- whose bodies are the program's own, -/
theorem bodies_eq : Cert.Kernel.defs₀ (F := Bits) = Cert.KernelIdeal.defs₀ (F := Bits) := by
  funext p l a
  match p, l, a with
  | .tc, 0, (t, s) => rfl
  | .tc, 1, _ => rfl
  | .scScalar _, 0, _ => rfl
  | .scScalar _, 1, _ => rfl
  | .scVector c s, 0, _ => rfl
  | .scVector c s, 1, _ => rfl

theorem defs_eq : Cert.Kernel.defs (F := Bits) = Cert.KernelIdeal.defs (F := Bits) := by
  unfold Cert.Kernel.defs Cert.KernelIdeal.defs
  rw [bodies_eq]
  rfl

/-- and so of the program itself. -/
theorem frame_kernel : Cert.quiescent_Kernel := by
  intro m ρ hp
  rw [defs_eq]
  exact frame_words m ρ hp

/-- The reference has no semaphore. -/
theorem frame_reference : Cert.quiescent_ReferenceIdeal := fun m ρ _ =>
  (θ_run Cert.ReferenceIdeal.defs _ _).mono (fun r h => ⟨fun c => (h c).2, sem_eq_zero_of_no_sems (by decide) r.2⟩)
    (Cert.ReferenceIdeal.Value.run (F := Ideal) m ρ)

open Cert.KernelIdeal in
theorem weights_eq (m : (ℓ : Loc nD τ sig) → Buf (Elt Ideal) ℓ) (c : Dev nD) : Kern.weights m c = Ref.weights (F := Ideal) (m ((c.tc : Thread nD τ).loc main_arg2)) := rfl

open Cert.KernelIdeal in
/-- Over the extended reals the program's result is the reference's term of the program's arguments. -/
theorem value_eq (m : (ℓ : Loc nD τ sig) → Buf (Elt Ideal) ℓ) (c : Dev nD)
    (hp : Cert.Pre_in_table.fn (F := Ideal) (m ((c.tc : Thread nD τ).loc main_arg0)) (m ((c.tc : Thread nD τ).loc main_arg1))
      (m ((c.tc : Thread nD τ).loc main_arg2)) = fun _ => 1#1) :
    Kern.valEnd m c main_v10 = Ref.picked (F := Ideal) (Ref.weights (m ((c.tc : Thread nD τ).loc main_arg2))) (m ((c.tc : Thread nD τ).loc main_arg0))
      (m ((c.tc : Thread nD τ).loc main_arg1)) := by
  rw [Kern.valEnd_v10, Kern.tableOf_eq, Kern.posOf_eq, weights_eq]
  exact Kern.result_eq _ _ _ (Kern.pos_lt _ _ _ hp)

theorem algebraic : Cert.algebraic_KernelIdeal_ReferenceIdeal := by
  intro m g m' g' hp hag
  refine ⟨fun c => Kern.valEnd m c Cert.KernelIdeal.main_v10, ?_, ?_⟩
  · exact (θ_run Cert.KernelIdeal.defs _ _).mono (fun _ h => h.1) (kernel_run (F := Ideal) m g hp)
  · refine (θ_run Cert.ReferenceIdeal.defs _ _).mono (fun r h c => ⟨(h c).1.trans ?_, (h c).2⟩) (Cert.ReferenceIdeal.Value.run (F := Ideal) m' g')
    have e0 := (hag c).1
    have e1 := (hag c).2.1
    have e2 := (hag c).2.2
    refine (Ref.res_eq m' c).trans (Eq.trans ?_ (value_eq m c (hp c)).symm)
    rw [e0, e1, e2]

theorem claim : Cert.Claim := ⟨Cert.Kernel.Gen.facts, Cert.KernelIdeal.Gen.facts, Cert.ReferenceIdeal.Gen.facts, Cert.Pre_in_table.Gen.facts,
  frame_kernel, frame_ideal, frame_reference, trivial, algebraic⟩

end Cert.Proof

end
